-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_operands [hPre_finite_operands : Cert.Pre_finite_operands.Facts] (m : (ℓ : Loc Cert.KernelIdeal.nD Cert.KernelIdeal.τ Cert.KernelIdeal.sig) → Buf (Elt Ideal) ℓ) : Prop :=
  ∀ c : Dev Cert.KernelIdeal.nD,
    (Cert.Pre_finite_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_operands [hPre_finite_operands : Cert.Pre_finite_operands.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_inputs [hPre_finite_inputs : Cert.Pre_finite_inputs.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_inputs.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite_inputs.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite_inputs.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_inputs [hPre_finite_inputs : Cert.Pre_finite_inputs.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_inputs.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite_inputs.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite_inputs.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_operands [hKernelIdeal : Cert.KernelIdeal.Facts] [hPre_finite_operands : Cert.Pre_finite_operands.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_operands m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_operands [hReferenceIdeal : Cert.ReferenceIdeal.Facts] [hPre_finite_operands : Cert.Pre_finite_operands.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_operands m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite_inputs [hKernel2Ideal : Cert.Kernel2Ideal.Facts] [hPre_finite_inputs : Cert.Pre_finite_inputs.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_inputs m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite_inputs [hReference2Ideal : Cert.Reference2Ideal.Facts] [hPre_finite_inputs : Cert.Pre_finite_inputs.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_inputs m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_operands [hKernelIdeal : Cert.KernelIdeal.Facts] [hReferenceIdeal : Cert.ReferenceIdeal.Facts] [hPre_finite_operands : Cert.Pre_finite_operands.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_operands m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite_inputs [hKernel2Ideal : Cert.Kernel2Ideal.Facts] [hReference2Ideal : Cert.Reference2Ideal.Facts] [hPre_finite_inputs : Cert.Pre_finite_inputs.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_inputs m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v23_0)) (v1 : (c : Dev Cert.Kernel2Ideal.nD) → Buf (Elt Ideal) ((c.tc : Thread Cert.Kernel2Ideal.nD Cert.Kernel2Ideal.τ).loc Cert.Kernel2Ideal.main_v23_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v23_0) = v0 c
          ∧ r.2.mem ((c.tc : Thread Cert.Kernel2Ideal.nD Cert.Kernel2Ideal.τ).loc Cert.Kernel2Ideal.main_v23_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v67) = v0 c
          ∧ r.2.mem ((c.tc : Thread Cert.Reference2Ideal.nD Cert.Reference2Ideal.τ).loc Cert.Reference2Ideal.main_v69) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v31) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_operands : Cert.Pre_finite_operands.Facts) (hPre_finite_inputs : Cert.Pre_finite_inputs.Facts),
    quiescent_Kernel (hKernel := hKernel)
    ∧ quiescent_KernelIdeal (hKernelIdeal := hKernelIdeal)
    ∧ quiescent_KernelIdeal_pre_finite_operands (hKernelIdeal := hKernelIdeal) (hPre_finite_operands := hPre_finite_operands)
    ∧ quiescent_ReferenceIdeal (hReferenceIdeal := hReferenceIdeal)
    ∧ quiescent_ReferenceIdeal_pre_finite_operands (hReferenceIdeal := hReferenceIdeal) (hPre_finite_operands := hPre_finite_operands)
    ∧ quiescent_Kernel2 (hKernel2 := hKernel2)
    ∧ quiescent_Kernel2Ideal (hKernel2Ideal := hKernel2Ideal)
    ∧ quiescent_Kernel2Ideal_pre_finite_inputs (hKernel2Ideal := hKernel2Ideal) (hPre_finite_inputs := hPre_finite_inputs)
    ∧ quiescent_Reference2Ideal (hReference2Ideal := hReference2Ideal)
    ∧ quiescent_Reference2Ideal_pre_finite_inputs (hReference2Ideal := hReference2Ideal) (hPre_finite_inputs := hPre_finite_inputs)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_operands (hKernelIdeal := hKernelIdeal) (hReferenceIdeal := hReferenceIdeal) (hPre_finite_operands := hPre_finite_operands)
    ∧ preserves_Kernel2_Kernel2Ideal
    ∧ algebraic_Kernel2Ideal_Reference2Ideal_pre_finite_inputs (hKernel2Ideal := hKernel2Ideal) (hReference2Ideal := hReference2Ideal) (hPre_finite_inputs := hPre_finite_inputs)
    ∧ preserves_Kernel3_Kernel3Ideal
    ∧ algebraic_Kernel3Ideal_Reference3Ideal (hKernel3Ideal := hKernel3Ideal) (hReference3Ideal := hReference3Ideal)
-- ==== Pre_finite_inputs.lean ====
abbrev S4x8192x2048 : Shape := ⟨3, ![4, 8192, 2048]⟩
abbrev S1x2048 : Shape := ⟨2, ![1, 2048]⟩
abbrev S1x2048x10240 : Shape := ⟨3, ![1, 2048, 10240]⟩
abbrev S1x64 : Shape := ⟨2, ![1, 64]⟩
abbrev S_ : Shape := ⟨0, ![]⟩

class Facts : Prop where
  bcast_S_S4x8192x2048 : S_.BroadcastsInDim S4x8192x2048 (![] : Fin 0 → Fin S4x8192x2048.rank)
  bcast_S_S1x2048 : S_.BroadcastsInDim S1x2048 (![] : Fin 0 → Fin S1x2048.rank)
  bcast_S_S1x2048x10240 : S_.BroadcastsInDim S1x2048x10240 (![] : Fin 0 → Fin S1x2048x10240.rank)

variable [Facts]

def fn {F : FTy → Type} [FloatOps F] (main_arg0 : FVec F S4x8192x2048 .f32) (main_arg1 : FVec F S1x2048 .f32) (main_arg2 : FVec F S1x2048x10240 .f32) (main_arg3 : FVec F S1x64 .f32) (main_arg4 : FVec F S1x64 .f32) : IVec S4x8192x2048 1 × IVec S1x2048 1 × IVec S1x2048x10240 1 :=
  let main_v0 : FVec F S4x8192x2048 .f32 := Host.absf main_arg0
  let main_cst : FVec F S_ .f32 := constant S_ .f32 0x7F800000#32
  let main_v1 : FVec F S4x8192x2048 .f32 := broadcastInDim S4x8192x2048 ![] bcast_S_S4x8192x2048 main_cst
  let main_v2 : IVec S4x8192x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S1x2048x10240 .f32 := Host.absf main_arg2
  let main_cst_1 : FVec F S_ .f32 := constant S_ .f32 0x7F800000#32
  let main_v7 : FVec F S1x2048x10240 .f32 := broadcastInDim S1x2048x10240 ![] bcast_S_S1x2048x10240 main_cst_1
  let main_v8 : IVec S1x2048x10240 1 := cmpf .olt main_v6 main_v7
  (main_v2, main_v5, main_v8)
-- ==== Pre_finite_operands.lean ====
abbrev S1x64 : Shape := ⟨2, ![1, 64]⟩
abbrev S1x128 : Shape := ⟨2, ![1, 128]⟩
abbrev S32768x10240 : Shape := ⟨2, ![32768, 10240]⟩
abbrev S4x1024x8192 : Shape := ⟨3, ![4, 1024, 8192]⟩
abbrev S_ : Shape := ⟨0, ![]⟩
abbrev S32768x2048 : Shape := ⟨2, ![32768, 2048]⟩

class Facts : Prop where
  bcast_S_S1x64 : S_.BroadcastsInDim S1x64 (![] : Fin 0 → Fin S1x64.rank)
  slices_S32768x10240_S32768x2048_0_0 : S32768x10240.Slices ![0, 0] S32768x2048
  bitsLt_bf16_f32 : FTy.bits .bf16 < FTy.bits .f32
  bcast_S_S32768x2048 : S_.BroadcastsInDim S32768x2048 (![] : Fin 0 → Fin S32768x2048.rank)
  bcast_S_S4x1024x8192 : S_.BroadcastsInDim S4x1024x8192 (![] : Fin 0 → Fin S4x1024x8192.rank)

variable [Facts]

def fn_part1 {F : FTy → Type} [FloatOps F] (main_v2 : IVec S1x64 1) (main_v5 : IVec S1x64 1) (main_v8 : IVec S1x64 1) (main_v11 : IVec S1x64 1) (main_v16 : IVec S32768x2048 1) (main_v18 : FVec F S4x1024x8192 .f32) : IVec S1x64 1 × IVec S1x64 1 × IVec S1x64 1 × IVec S1x64 1 × IVec S32768x2048 1 × IVec S4x1024x8192 1 :=
  let main_cst_4 : FVec F S_ .f32 := constant S_ .f32 0x7F800000#32
  let main_v19 : FVec F S4x1024x8192 .f32 := broadcastInDim S4x1024x8192 ![] bcast_S_S4x1024x8192 main_cst_4
  let main_v20 : IVec S4x1024x8192 1 := cmpf .olt main_v18 main_v19
  (main_v2, main_v5, main_v8, main_v11, main_v16, main_v20)

def fn {F : FTy → Type} [FloatOps F] (main_arg0 : FVec F S1x64 .f32) (main_arg1 : FVec F S1x64 .f32) (main_arg2 : FVec F S1x64 .f32) (main_arg3 : FVec F S1x64 .f32) (main_arg4 : FVec F S1x128 .f32) (main_arg5 : FVec F S32768x10240 .bf16) (main_arg6 : FVec F S4x1024x8192 .bf16) : IVec S1x64 1 × IVec S1x64 1 × IVec S1x64 1 × IVec S1x64 1 × IVec S32768x2048 1 × IVec S4x1024x8192 1 :=
  let main_v0 : FVec F S1x64 .f32 := Host.absf main_arg0
  let main_cst : FVec F S_ .f32 := constant S_ .f32 0x7F800000#32
  let main_v1 : FVec F S1x64 .f32 := broadcastInDim S1x64 ![] bcast_S_S1x64 main_cst
  let main_v2 : IVec S1x64 1 := cmpf .olt main_v0 main_v1
  let main_v3 : FVec F S1x64 .f32 := Host.absf main_arg1
  let main_cst_0 : FVec F S_ .f32 := constant S_ .f32 0x7F800000#32
  let main_v4 : FVec F S1x64 .f32 := broadcastInDim S1x64 ![] bcast_S_S1x64 main_cst_0
  let main_v5 : IVec S1x64 1 := cmpf .olt main_v3 main_v4
  let main_v6 : FVec F S1x64 .f32 := Host.absf main_arg2
  let main_cst_1 : FVec F S_ .f32 := constant S_ .f32 0x7F800000#32
  let main_v7 : FVec F S1x64 .f32 := broadcastInDim S1x64 ![] bcast_S_S1x64 main_cst_1
  let main_v8 : IVec S1x64 1 := cmpf .olt main_v6 main_v7
  let main_v9 : FVec F S1x64 .f32 := Host.absf main_arg3
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_v12 : FVec F S32768x2048 .bf16 := (extractStridedSlice S32768x2048 ![0, 0] · slices_S32768x10240_S32768x2048_0_0) main_arg5
  let main_v13 : FVec F S32768x2048 .f32 := (extf .f32 · bitsLt_bf16_f32) main_v12
  let main_v14 : FVec F S32768x2048 .f32 := Host.absf main_v13
  let main_cst_3 : FVec F S_ .f32 := constant S_ .f32 0x7F800000#32
  let main_v15 : FVec F S32768x2048 .f32 := broadcastInDim S32768x2048 ![] bcast_S_S32768x2048 main_cst_3
  let main_v16 : IVec S32768x2048 1 := cmpf .olt main_v14 main_v15
  let main_v17 : FVec F S4x1024x8192 .f32 := (extf .f32 · bitsLt_bf16_f32) main_arg6
  let main_v18 : FVec F S4x1024x8192 .f32 := Host.absf main_v17
  fn_part1 (F := F) main_v2 main_v5 main_v8 main_v11 main_v16 main_v18
-- ==== Kernel.lean ====
abbrev S1x64 : Shape := ⟨2, ![1, 64]⟩
abbrev S1x128 : Shape := ⟨2, ![1, 128]⟩
abbrev S32768x10240 : Shape := ⟨2, ![32768, 10240]⟩
abbrev S4x1024x8192 : Shape := ⟨3, ![4, 1024, 8192]⟩
abbrev S64 : Shape := ⟨1, ![64]⟩
abbrev S4x64 : Shape := ⟨2, ![4, 64]⟩
abbrev S128 : Shape := ⟨1, ![128]⟩
abbrev S_ : Shape := ⟨0, ![]⟩
abbrev S4x8192x10240 : Shape := ⟨3, ![4, 8192, 10240]⟩
abbrev S4x8192x1024 : Shape := ⟨3, ![4, 8192, 1024]⟩
abbrev S1x8192x128 : Shape := ⟨3, ![1, 8192, 128]⟩
abbrev S1x128x8192 : Shape := ⟨3, ![1, 128, 8192]⟩
abbrev S128x512 : Shape := ⟨2, ![128, 512]⟩
abbrev S1x512 : Shape := ⟨2, ![1, 512]⟩
abbrev S1 : Shape := ⟨1, ![1]⟩
abbrev S1x1 : Shape := ⟨2, ![1, 1]⟩
abbrev S1x256x128 : Shape := ⟨3, ![1, 256, 128]⟩
abbrev S256x128 : Shape := ⟨2, ![256, 128]⟩
abbrev S128x256 : Shape := ⟨2, ![128, 256]⟩
abbrev S256x512 : Shape := ⟨2, ![256, 512]⟩
abbrev S512 : Shape := ⟨1, ![512]⟩
abbrev S1x128x256 : Shape := ⟨3, ![1, 128, 256]⟩
abbrev S256 : Shape := ⟨1, ![256]⟩
abbrev S1x256 : Shape := ⟨2, ![1, 256]⟩

abbrev nBuf : Space → Nat
  | .hbm => 23
  | .vmem => 16
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x128, .f32⟩
  | .hbm, ⟨5, _⟩ => ⟨S32768x10240, .bf16⟩
  | .hbm, ⟨6, _⟩ => ⟨S4x1024x8192, .bf16⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S1x64, .f32⟩
  | .hbm, ⟨12, _⟩ => ⟨S1x64, .f32⟩
  | .hbm, ⟨13, _⟩ => ⟨S1x64, .f32⟩
  | .hbm, ⟨14, _⟩ => ⟨S1x64, .f32⟩
  | .hbm, ⟨15, _⟩ => ⟨S4x64, .f32⟩
  | .hbm, ⟨16, _⟩ => ⟨S128, .f32⟩
  | .hbm, ⟨17, _⟩ => ⟨S_, .f32⟩
  | .hbm, ⟨18, _⟩ => ⟨S128, .f32⟩
  | .hbm, ⟨19, _⟩ => ⟨S128, .f32⟩
  | .hbm, ⟨20, _⟩ => ⟨S1x128, .f32⟩
  | .hbm, ⟨21, _⟩ => ⟨S4x8192x10240, .bf16⟩
  | .hbm, ⟨22, _⟩ => ⟨S4x8192x1024, .bf16⟩
  | .local _ .vmem, ⟨0, _⟩ => ⟨S4x64, .f32⟩
  | .local _ .vmem, ⟨1, _⟩ => ⟨S1x128, .f32⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x128x8192, .bf16⟩
  | .local _ .vmem, ⟨7, _⟩ => ⟨S1x128x8192, .bf16⟩
  | .local _ .vmem, ⟨8, _⟩ => ⟨S1x8192x128, .bf16⟩
  | .local _ .vmem, ⟨9, _⟩ => ⟨S1x8192x128, .bf16⟩
  | .local _ .vmem, ⟨10, _⟩ => ⟨S1x8192x128, .bf16⟩
  | .local _ .vmem, ⟨11, _⟩ => ⟨S1x8192x128, .bf16⟩
  | .local _ .vmem, ⟨12, _⟩ => ⟨S128x512, .bf16⟩
  | .local _ .vmem, ⟨13, _⟩ => ⟨S1x512, .f32⟩
  | .local _ .vmem, ⟨14, _⟩ => ⟨S1x512, .f32⟩
  | .local _ .vmem, ⟨15, _⟩ => ⟨S128x512, .f32⟩
  | _, _ => ⟨S1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32 : BitVec 32 := 0#32
  let c32_i32 : BitVec 32 := 32#32
  let v17 : BitVec 32 := Scalar.addi c0_i32 c32_i32
  let c1_i32 : BitVec 32 := 1#32
  ⟨c0_i32, v17, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c256_i32 : BitVec 32 := 256#32
  let v18 : BitVec 32 := Scalar.muli arg13 c256_i32
  v18
def k0_off1 (k0_t1 : Fin k0_t1_loop.trips) : Fin 3 → Nat :=
  let c0_4 : Index := 0#32
  let c0_i32 : BitVec 32 := 0#32
  let c1_i32 : BitVec 32 := 1#32
  let arg13 : BitVec 32 := Scf.iv c0_i32 c1_i32 k0_t1
  let c256_i32 : BitVec 32 := 256#32
  let v18 : BitVec 32 := Scalar.muli arg13 c256_i32
  let v19 : BitVec 32 := v18
  let v20 : Index := Scalar.indexCast v19
  let c0_5 : Index := 0#32
  ![0, v20.toNat, 0]
@[reducible] def k0_t2_loop (k0_t1 : Fin k0_t1_loop.trips) : Scf.Loop 32 :=
  let c0_i32_21 : BitVec 32 := 0#32
  let c0_i32 : BitVec 32 := 0#32
  let c1_i32 : BitVec 32 := 1#32
  let arg13 : BitVec 32 := Scf.iv c0_i32 c1_i32 k0_t1
  let v53 : BitVec 32 := Scalar.subi arg13 c0_i32_21
  let c1_i32_22 : BitVec 32 := 1#32
  let v55 : BitVec 32 := Scalar.divsi v53 c1_i32_22
  let v56 : BitVec 32 := Scalar.muli v55 c1_i32_22
  let v57 : BitVec 32 := Scalar.addi c0_i32_21 v56
  let c1_i32_23 : BitVec 32 := 1#32
  ⟨c0_i32_21, v57, c1_i32_23⟩
def k0_mult2 (k0_t1 : Fin k0_t1_loop.trips) (k0_t2 : Fin (k0_t2_loop k0_t1).trips) : BitVec 32 :=
  let c0_i32_21 : BitVec 32 := 0#32
  let c1_i32_23 : BitVec 32 := 1#32
  let arg14 : BitVec 32 := Scf.iv c0_i32_21 c1_i32_23 k0_t2
  let c256_i32_65 : BitVec 32 := 256#32
  let v143 : BitVec 32 := Scalar.muli arg14 c256_i32_65
  v143
def k0_off2 (k0_t1 : Fin k0_t1_loop.trips) (k0_t2 : Fin (k0_t2_loop k0_t1).trips) : Fin 3 → Nat :=
  let c0_66 : Index := 0#32
  let c0_i32_21 : BitVec 32 := 0#32
  let c1_i32_23 : BitVec 32 := 1#32
  let arg14 : BitVec 32 := Scf.iv c0_i32_21 c1_i32_23 k0_t2
  let c256_i32_65 : BitVec 32 := 256#32
  let v143 : BitVec 32 := Scalar.muli arg14 c256_i32_65
  let v144 : BitVec 32 := v143
  let v145 : Index := Scalar.indexCast v144
  let c0_67 : Index := 0#32
  ![0, v145.toNat, 0]
def k0_off3 (k0_t1 : Fin k0_t1_loop.trips) (k0_t2 : Fin (k0_t2_loop k0_t1).trips) : Fin 3 → Nat :=
  let c0_81 : Index := 0#32
  let c0_82 : Index := 0#32
  let c0_i32_21 : BitVec 32 := 0#32
  let c1_i32_23 : BitVec 32 := 1#32
  let arg14 : BitVec 32 := Scf.iv c0_i32_21 c1_i32_23 k0_t2
  let c256_i32_65 : BitVec 32 := 256#32
  let v143 : BitVec 32 := Scalar.muli arg14 c256_i32_65
  let v144 : BitVec 32 := v143
  let v170 : Index := Scalar.indexCast v144
  ![0, 0, v170.toNat]
@[reducible] def k0_t3_loop (k0_t1 : Fin k0_t1_loop.trips) : Scf.Loop 32 :=
  let c0_i32_21 : BitVec 32 := 0#32
  let c0_i32 : BitVec 32 := 0#32
  let c1_i32 : BitVec 32 := 1#32
  let arg13 : BitVec 32 := Scf.iv c0_i32 c1_i32 k0_t1
  let v53 : BitVec 32 := Scalar.subi arg13 c0_i32_21
  let c1_i32_22 : BitVec 32 := 1#32
  let v55 : BitVec 32 := Scalar.divsi v53 c1_i32_22
  let v56 : BitVec 32 := Scalar.muli v55 c1_i32_22
  let v57 : BitVec 32 := Scalar.addi c0_i32_21 v56
  let v54 : BitVec 32 := Scalar.addi c0_i32_21 v53
  let c1_i32_24 : BitVec 32 := 1#32
  ⟨v57, v54, c1_i32_24⟩
def k0_mult3 (k0_t1 : Fin k0_t1_loop.trips) (k0_t3 : Fin (k0_t3_loop k0_t1).trips) : BitVec 32 :=
  let c0_i32_21 : BitVec 32 := 0#32
  let c0_i32 : BitVec 32 := 0#32
  let c1_i32 : BitVec 32 := 1#32
  let arg13 : BitVec 32 := Scf.iv c0_i32 c1_i32 k0_t1
  let v53 : BitVec 32 := Scalar.subi arg13 c0_i32_21
  let c1_i32_22 : BitVec 32 := 1#32
  let v55 : BitVec 32 := Scalar.divsi v53 c1_i32_22
  let v56 : BitVec 32 := Scalar.muli v55 c1_i32_22
  let v57 : BitVec 32 := Scalar.addi c0_i32_21 v56
  let c1_i32_24 : BitVec 32 := 1#32
  let arg14 : BitVec 32 := Scf.iv v57 c1_i32_24 k0_t3
  let c256_i32_65 : BitVec 32 := 256#32
  let v143 : BitVec 32 := Scalar.muli arg14 c256_i32_65
  v143
def k0_off4 (k0_t1 : Fin k0_t1_loop.trips) (k0_t3 : Fin (k0_t3_loop k0_t1).trips) : Fin 3 → Nat :=
  let c0_66 : Index := 0#32
  let c0_i32_21 : BitVec 32 := 0#32
  let c0_i32 : BitVec 32 := 0#32
  let c1_i32 : BitVec 32 := 1#32
  let arg13 : BitVec 32 := Scf.iv c0_i32 c1_i32 k0_t1
  let v53 : BitVec 32 := Scalar.subi arg13 c0_i32_21
  let c1_i32_22 : BitVec 32 := 1#32
  let v55 : BitVec 32 := Scalar.divsi v53 c1_i32_22
  let v56 : BitVec 32 := Scalar.muli v55 c1_i32_22
  let v57 : BitVec 32 := Scalar.addi c0_i32_21 v56
  let c1_i32_24 : BitVec 32 := 1#32
  let arg14 : BitVec 32 := Scf.iv v57 c1_i32_24 k0_t3
  let c256_i32_65 : BitVec 32 := 256#32
  let v143 : BitVec 32 := Scalar.muli arg14 c256_i32_65
  let v144 : BitVec 32 := v143
  let v145 : Index := Scalar.indexCast v144
  let c0_67 : Index := 0#32
  ![0, v145.toNat, 0]
def k0_off5 (k0_t1 : Fin k0_t1_loop.trips) (k0_t3 : Fin (k0_t3_loop k0_t1).trips) : Fin 3 → Nat :=
  let c0_81 : Index := 0#32
  let c0_82 : Index := 0#32
  let c0_i32_21 : BitVec 32 := 0#32
  let c0_i32 : BitVec 32 := 0#32
  let c1_i32 : BitVec 32 := 1#32
  let arg13 : BitVec 32 := Scf.iv c0_i32 c1_i32 k0_t1
  let v53 : BitVec 32 := Scalar.subi arg13 c0_i32_21
  let c1_i32_22 : BitVec 32 := 1#32
  let v55 : BitVec 32 := Scalar.divsi v53 c1_i32_22
  let v56 : BitVec 32 := Scalar.muli v55 c1_i32_22
  let v57 : BitVec 32 := Scalar.addi c0_i32_21 v56
  let c1_i32_24 : BitVec 32 := 1#32
  let arg14 : BitVec 32 := Scf.iv v57 c1_i32_24 k0_t3
  let c256_i32_65 : BitVec 32 := 256#32
  let v143 : BitVec 32 := Scalar.muli arg14 c256_i32_65
  let v144 : BitVec 32 := v143
  let v170 : Index := Scalar.indexCast v144
  ![0, 0, v170.toNat]
def k0_mult4 (k0_t1 : Fin k0_t1_loop.trips) : BitVec 32 :=
  let c0_i32 : BitVec 32 := 0#32
  let c1_i32 : BitVec 32 := 1#32
  let arg13 : BitVec 32 := Scf.iv c0_i32 c1_i32 k0_t1
  let c256_i32_25 : BitVec 32 := 256#32
  let v58 : BitVec 32 := Scalar.muli arg13 c256_i32_25
  v58
def k0_off6 (k0_t1 : Fin k0_t1_loop.trips) : Fin 3 → Nat :=
  let c0_44 : Index := 0#32
  let c0_45 : Index := 0#32
  let c0_i32 : BitVec 32 := 0#32
  let c1_i32 : BitVec 32 := 1#32
  let arg13 : BitVec 32 := Scf.iv c0_i32 c1_i32 k0_t1
  let c256_i32_25 : BitVec 32 := 256#32
  let v58 : BitVec 32 := Scalar.muli arg13 c256_i32_25
  let v59 : BitVec 32 := v58
  let v95 : Index := Scalar.indexCast v59
  ![0, 0, v95.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8192x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8192x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S1x64 : Shape := ⟨2, ![1, 64]⟩
abbrev S1x128 : Shape := ⟨2, ![1, 128]⟩
abbrev S32768x10240 : Shape := ⟨2, ![32768, 10240]⟩
abbrev S4x1024x8192 : Shape := ⟨3, ![4, 1024, 8192]⟩
abbrev S4x8192x10240 : Shape := ⟨3, ![4, 8192, 10240]⟩
abbrev S4x8192x1024 : Shape := ⟨3, ![4, 8192, 1024]⟩
abbrev S4x8192x8x2x64 : Shape := ⟨5, ![4, 8192, 8, 2, 64]⟩
abbrev S4x8x128x8192 : Shape := ⟨4, ![4, 8, 128, 8192]⟩
abbrev S64 : Shape := ⟨1, ![64]⟩
abbrev S_ : Shape := ⟨0, ![]⟩
abbrev S4x8x2x8192x8192 : Shape := ⟨5, ![4, 8, 2, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x8x2x8192 : Shape := ⟨4, ![4, 8, 2, 8192]⟩
abbrev S4x8x2x8192x1 : Shape := ⟨5, ![4, 8, 2, 8192, 1]⟩
abbrev S4x8x1x8192x8192 : Shape := ⟨5, ![4, 8, 1, 8192, 8192]⟩
abbrev S4x8x8192x8192 : Shape := ⟨4, ![4, 8, 8192, 8192]⟩
abbrev S4x8192x8x128 : Shape := ⟨4, ![4, 8192, 8, 128]⟩
abbrev S128 : Shape := ⟨1, ![128]⟩
abbrev S4x8192x8 : Shape := ⟨3, ![4, 8192, 8]⟩
abbrev S4x8192x8x1 : Shape := ⟨4, ![4, 8192, 8, 1]⟩
abbrev S1x1x1x128 : Shape := ⟨4, ![1, 1, 1, 128]⟩

abbrev nBuf : Space → Nat
  | .hbm => 89
  | .vmem => 0
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x128, .f32⟩
  | .hbm, ⟨5, _⟩ => ⟨S32768x10240, .bf16⟩
  | .hbm, ⟨6, _⟩ => ⟨S4x1024x8192, .bf16⟩
  | .hbm, ⟨7, _⟩ => ⟨S32768x10240, .f32⟩
  | .hbm, ⟨8, _⟩ => ⟨S4x8192x10240, .f32⟩
  | .hbm, ⟨9, _⟩ => ⟨S4x8192x1024, .f32⟩
  | .hbm, ⟨10, _⟩ => ⟨S4x8192x8x2x64, .f32⟩
  | .hbm, ⟨11, _⟩ => ⟨S4x8192x1024, .f32⟩
  | .hbm, ⟨12, _⟩ => ⟨S4x8192x8x2x64, .f32⟩
  | .hbm, ⟨13, _⟩ => ⟨S4x8192x1024, .f32⟩
  | .hbm, ⟨14, _⟩ => ⟨S4x1024x8192, .f32⟩
  | .hbm, ⟨15, _⟩ => ⟨S4x8x128x8192, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S64, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S4x8x2x8192x8192, .f32⟩
  | .hbm, ⟨32, _⟩ => ⟨S8192, .i32⟩
  | .hbm, ⟨33, _⟩ => ⟨S1x8192, .i32⟩
  | .hbm, ⟨34, _⟩ => ⟨S8192x1, .i32⟩
  | .hbm, ⟨35, _⟩ => ⟨S8192x8192, .i32⟩
  | .hbm, ⟨36, _⟩ => ⟨S8192x8192, .i32⟩
  | .hbm, ⟨37, _⟩ => ⟨S8192x8192, .i1⟩
  | .hbm, ⟨38, _⟩ => ⟨S_, .f32⟩
  | .hbm, ⟨39, _⟩ => ⟨S_, .f32⟩
  | .hbm, ⟨40, _⟩ => ⟨S4x8x2x8192x8192, .i1⟩
  | .hbm, ⟨41, _⟩ => ⟨S4x8x2x8192x8192, .f32⟩
  | .hbm, ⟨42, _⟩ => ⟨S4x8x2x8192x8192, .f32⟩
  | .hbm, ⟨43, _⟩ => ⟨S_, .f32⟩
  | .hbm, ⟨44, _⟩ => ⟨S4x8x2x8192, .f32⟩
  | .hbm, ⟨45, _⟩ => ⟨S_, .f32⟩
  | .hbm, ⟨46, _⟩ => ⟨S4x8x2x8192, .f32⟩
  | .hbm, ⟨47, _⟩ => ⟨S4x8x2x8192, .f32⟩
  | .hbm, ⟨48, _⟩ => ⟨S4x8x2x8192x1, .f32⟩
  | .hbm, ⟨49, _⟩ => ⟨S4x8x2x8192x8192, .f32⟩
  | .hbm, ⟨50, _⟩ => ⟨S4x8x2x8192x8192, .f32⟩
  | .hbm, ⟨51, _⟩ => ⟨S4x8x2x8192x8192, .f32⟩
  | .hbm, ⟨52, _⟩ => ⟨S_, .f32⟩
  | .hbm, ⟨53, _⟩ => ⟨S4x8x2x8192, .f32⟩
  | .hbm, ⟨54, _⟩ => ⟨S4x8x2x8192x1, .f32⟩
  | .hbm, ⟨55, _⟩ => ⟨S4x8x2x8192x8192, .f32⟩
  | .hbm, ⟨56, _⟩ => ⟨S4x8x2x8192x8192, .f32⟩
  | .hbm, ⟨57, _⟩ => ⟨S4x8x1x8192x8192, .f32⟩
  | .hbm, ⟨58, _⟩ => ⟨S4x8x8192x8192, .f32⟩
  | .hbm, ⟨59, _⟩ => ⟨S4x8x1x8192x8192, .f32⟩
  | .hbm, ⟨60, _⟩ => ⟨S4x8x8192x8192, .f32⟩
  | .hbm, ⟨61, _⟩ => ⟨S4x8x8192x8192, .f32⟩
  | .hbm, ⟨62, _⟩ => ⟨S4x8x8192x8192, .f32⟩
  | .hbm, ⟨63, _⟩ => ⟨S4x8x8192x8192, .f32⟩
  | .hbm, ⟨64, _⟩ => ⟨S4x8x128x8192, .f32⟩
  | .hbm, ⟨65, _⟩ => ⟨S4x8192x8x128, .f32⟩
  | .hbm, ⟨66, _⟩ => ⟨S128, .f32⟩
  | .hbm, ⟨67, _⟩ => ⟨S4x8192x8x128, .f32⟩
  | .hbm, ⟨68, _⟩ => ⟨S_, .f32⟩
  | .hbm, ⟨69, _⟩ => ⟨S4x8192x8, .f32⟩
  | .hbm, ⟨70, _⟩ => ⟨S4x8192x8x1, .f32⟩
  | .hbm, ⟨71, _⟩ => ⟨S_, .f32⟩
  | .hbm, ⟨72, _⟩ => ⟨S4x8192x8x1, .f32⟩
  | .hbm, ⟨73, _⟩ => ⟨S4x8192x8x1, .f32⟩
  | .hbm, ⟨74, _⟩ => ⟨S_, .f32⟩
  | .hbm, ⟨75, _⟩ => ⟨S4x8192x8x1, .f32⟩
  | .hbm, ⟨76, _⟩ => ⟨S4x8192x8x1, .f32⟩
  | .hbm, ⟨77, _⟩ => ⟨S4x8192x8x1, .f32⟩
  | .hbm, ⟨78, _⟩ => ⟨S4x8192x8x128, .f32⟩
  | .hbm, ⟨79, _⟩ => ⟨S4x8192x8x128, .f32⟩
  | .hbm, ⟨80, _⟩ => ⟨S1x1x1x128, .f32⟩
  | .hbm, ⟨81, _⟩ => ⟨S4x8192x8x128, .f32⟩
  | .hbm, ⟨82, _⟩ => ⟨S4x8192x8x128, .f32⟩
  | .hbm, ⟨83, _⟩ => ⟨S_, .f32⟩
  | .hbm, ⟨84, _⟩ => ⟨S4x8192x8x128, .f32⟩
  | .hbm, ⟨85, _⟩ => ⟨S4x8192x8x128, .f32⟩
  | .hbm, ⟨86, _⟩ => ⟨S4x8192x1024, .f32⟩
  | .hbm, ⟨87, _⟩ => ⟨S4x8192x1024, .f32⟩
  | .hbm, ⟨88, _⟩ => ⟨S4x8192x1024, .bf16⟩
  | _, _ => ⟨S1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_6 : Ref sig .tc := ⟨.hbm, 68, rfl⟩
abbrev main_v51 : Ref sig .tc := ⟨.hbm, 69, rfl⟩
abbrev main_v52 : Ref sig .tc := ⟨.hbm, 70, rfl⟩
abbrev main_cst_7 : Ref sig .tc := ⟨.hbm, 71, rfl⟩
abbrev main_v53 : Ref sig .tc := ⟨.hbm, 72, rfl⟩
abbrev main_v54 : Ref sig .tc := ⟨.hbm, 73, rfl⟩
abbrev main_cst_8 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_9 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩

abbrev nD : Nat := 1
abbrev τ : Topo := Topo.v7x

variable {F : FTy → Type} [FloatOps F]
-- ==== Kernel2.lean ====
abbrev S4x8192x2048 : Shape := ⟨3, ![4, 8192, 2048]⟩
abbrev S1x2048 : Shape := ⟨2, ![1, 2048]⟩
abbrev S1x2048x10240 : Shape := ⟨3, ![1, 2048, 10240]⟩
abbrev S1x64 : Shape := ⟨2, ![1, 64]⟩
abbrev S32768x2048 : Shape := ⟨2, ![32768, 2048]⟩
abbrev S64 : Shape := ⟨1, ![64]⟩
abbrev S16x64 : Shape := ⟨2, ![16, 64]⟩
abbrev S1024 : Shape := ⟨1, ![1024]⟩
abbrev S_ : Shape := ⟨0, ![]⟩
abbrev S1x1024 : Shape := ⟨2, ![1, 1024]⟩
abbrev S2048 : Shape := ⟨1, ![2048]⟩
abbrev S2048x10240 : Shape := ⟨2, ![2048, 10240]⟩
abbrev S256x256 : Shape := ⟨2, ![256, 256]⟩
abbrev S32768x10240 : Shape := ⟨2, ![32768, 10240]⟩
abbrev S4x1024x8192 : Shape := ⟨3, ![4, 1024, 8192]⟩
abbrev S1024x2048 : Shape := ⟨2, ![1024, 2048]⟩
abbrev S2048x1024 : Shape := ⟨2, ![2048, 1024]⟩
abbrev S1024x1024 : Shape := ⟨2, ![1024, 1024]⟩
abbrev S1x1024x1024 : Shape := ⟨3, ![1, 1024, 1024]⟩
abbrev S1024x1 : Shape := ⟨2, ![1024, 1]⟩
abbrev S1024x256 : Shape := ⟨2, ![1024, 256]⟩

abbrev nBuf : Space → Nat
  | .hbm => 65
  | .vmem => 13
  | .smem => 0
  | _ => 0

abbrev bufTy : (tb : Table) → Fin (tcTables nBuf tb) → BufTy
  | .hbm, ⟨0, _⟩ => ⟨S4x8192x2048, .f32⟩
  | .hbm, ⟨1, _⟩ => ⟨S1x2048, .f32⟩
  | .hbm, ⟨2, _⟩ => ⟨S1x2048x10240, .f32⟩
  | .hbm, ⟨3, _⟩ => ⟨S1x64, .f32⟩
  | .hbm, ⟨4, _⟩ => ⟨S1x64, .f32⟩
  | .hbm, ⟨5, _⟩ => ⟨S32768x2048, .f32⟩
  | .hbm, ⟨6, _⟩ => ⟨S64, .f32⟩
  | .hbm, ⟨7, _⟩ => ⟨S1x64, .f32⟩
  | .hbm, ⟨8, _⟩ => ⟨S16x64, .f32⟩
  | .hbm, ⟨9, _⟩ => ⟨S1024, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S1x1024, .f32⟩
  | .hbm, ⟨14, _⟩ => ⟨S64, .f32⟩
  | .hbm, ⟨15, _⟩ => ⟨S1x64, .f32⟩
  | .hbm, ⟨16, _⟩ => ⟨S16x64, .f32⟩
  | .hbm, ⟨17, _⟩ => ⟨S1024, .f32⟩
  | .hbm, ⟨18, _⟩ => ⟨S1x1024, .f32⟩
  | .hbm, ⟨19, _⟩ => ⟨S2048, .f32⟩
  | .hbm, ⟨20, _⟩ => ⟨S1x2048, .f32⟩
  | .hbm, ⟨21, _⟩ => ⟨S2048x10240, .f32⟩
  | .hbm, ⟨22, _⟩ => ⟨S2048x10240, .bf16⟩
  | .hbm, ⟨23, _⟩ => ⟨S256x256, .i32⟩
  | .hbm, ⟨24, _⟩ => ⟨S_, .i32⟩
  | .hbm, ⟨25, _⟩ => ⟨S_, .i32⟩
  | .hbm, ⟨26, _⟩ => ⟨S256x256, .i32⟩
  | .hbm, ⟨27, _⟩ => ⟨S256x256, .i32⟩
  | .hbm, ⟨28, _⟩ => ⟨S256x256, .i32⟩
  | .hbm, ⟨29, _⟩ => ⟨S_, .i32⟩
  | .hbm, ⟨30, _⟩ => ⟨S256x256, .i32⟩
  | .hbm, ⟨31, _⟩ => ⟨S256x256, .i1⟩
  | .hbm, ⟨32, _⟩ => ⟨S256x256, .i32⟩
  | .hbm, ⟨33, _⟩ => ⟨S256x256, .i32⟩
  | .hbm, ⟨34, _⟩ => ⟨S_, .i32⟩
  | .hbm, ⟨35, _⟩ => ⟨S256x256, .i32⟩
  | .hbm, ⟨36, _⟩ => ⟨S256x256, .i1⟩
  | .hbm, ⟨37, _⟩ => ⟨S256x256, .i1⟩
  | .hbm, ⟨38, _⟩ => ⟨S_, .i32⟩
  | .hbm, ⟨39, _⟩ => ⟨S256x256, .i32⟩
  | .hbm, ⟨40, _⟩ => ⟨S256x256, .i32⟩
  | .hbm, ⟨41, _⟩ => ⟨S256x256, .i32⟩
  | .hbm, ⟨42, _⟩ => ⟨S256x256, .i32⟩
  | .hbm, ⟨43, _⟩ => ⟨S_, .i32⟩
  | .hbm, ⟨44, _⟩ => ⟨S_, .i32⟩
  | .hbm, ⟨45, _⟩ => ⟨S256x256, .i32⟩
  | .hbm, ⟨46, _⟩ => ⟨S256x256, .i32⟩
  | .hbm, ⟨47, _⟩ => ⟨S256x256, .i32⟩
  | .hbm, ⟨48, _⟩ => ⟨S_, .i32⟩
  | .hbm, ⟨49, _⟩ => ⟨S256x256, .i32⟩
  | .hbm, ⟨50, _⟩ => ⟨S256x256, .i1⟩
  | .hbm, ⟨51, _⟩ => ⟨S256x256, .i32⟩
  | .hbm, ⟨52, _⟩ => ⟨S256x256, .i32⟩
  | .hbm, ⟨53, _⟩ => ⟨S_, .i32⟩
  | .hbm, ⟨54, _⟩ => ⟨S256x256, .i32⟩
  | .hbm, ⟨55, _⟩ => ⟨S256x256, .i1⟩
  | .hbm, ⟨56, _⟩ => ⟨S256x256, .i1⟩
  | .hbm, ⟨57, _⟩ => ⟨S_, .i32⟩
  | .hbm, ⟨58, _⟩ => ⟨S256x256, .i32⟩
  | .hbm, ⟨59, _⟩ => ⟨S256x256, .i32⟩
  | .hbm, ⟨60, _⟩ => ⟨S256x256, .i32⟩
  | .hbm, ⟨61, _⟩ => ⟨S256x256, .i1⟩
  | .hbm, ⟨62, _⟩ => ⟨S256x256, .bf16⟩
  | .hbm, ⟨63, _⟩ => ⟨S32768x10240, .bf16⟩
  | .hbm, ⟨64, _⟩ => ⟨S4x1024x8192, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1x1024, .f32⟩
  | .local _ .vmem, ⟨6, _⟩ => ⟨S1x1024, .f32⟩
  | .local _ .vmem, ⟨7, _⟩ => ⟨S256x256, .bf16⟩
  | .local _ .vmem, ⟨8, _⟩ => ⟨S1024x1024, .bf16⟩
  | .local _ .vmem, ⟨9, _⟩ => ⟨S1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1024x2048, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_c : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_0 : Ref sig .tc := ⟨.hbm, 38, rfl⟩
abbrev main_call0_v12 : Ref sig .tc := ⟨.hbm, 39, rfl⟩
abbrev main_call0_v13 : Ref sig .tc := ⟨.hbm, 40, rfl⟩
abbrev main_v18 : Ref sig .tc := ⟨.hbm, 41, rfl⟩
abbrev main_v19 : Ref sig .tc := ⟨.hbm, 42, rfl⟩
abbrev main_c_0 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_c : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_0 : Ref sig .tc := ⟨.hbm, 57, rfl⟩
abbrev main_call1_v12 : Ref sig .tc := ⟨.hbm, 58, rfl⟩
abbrev main_call1_v13 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23_0 : Ref sig .tc := ⟨.hbm, 63, rfl⟩
abbrev main_v23_1 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![32, 10], ![false, false]⟩

def k0_cond2 (i : grid0.Coords) : BitVec 1 :=
  let arg1 : BitVec 32 := BitVec.ofNat 32 (i 1).val
  let c0_i32_4 : BitVec 32 := 0#32
  let v7 : BitVec 1 := Scalar.cmpi .eq arg1 c0_i32_4
  let v8 : BitVec 32 := Scalar.extui v7
  let c0_i32_5 : BitVec 32 := 0#32
  let v9 : BitVec 1 := Scalar.cmpi .ne v8 c0_i32_5
  v9

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_6 : BitVec 32 := 0#32
  let v12 : BitVec 1 := Scalar.cmpi .ne v11 c0_i32_6
  v12

def k0_cond4 (i : grid0.Coords) : BitVec 1 :=
  let arg1 : BitVec 32 := BitVec.ofNat 32 (i 1).val
  let c2_i32 : BitVec 32 := 2#32
  let v13 : BitVec 1 := Scalar.cmpi .eq arg1 c2_i32
  let v14 : BitVec 32 := Scalar.extui v13
  let c0_i32_7 : BitVec 32 := 0#32
  let v15 : BitVec 1 := Scalar.cmpi .ne v14 c0_i32_7
  v15

def k0_cond5 (i : grid0.Coords) : BitVec 1 :=
  let arg1 : BitVec 32 := BitVec.ofNat 32 (i 1).val
  let c4_i32 : BitVec 32 := 4#32
  let v16 : BitVec 1 := Scalar.cmpi .eq arg1 c4_i32
  let v17 : BitVec 32 := Scalar.extui v16
  let c0_i32_8 : BitVec 32 := 0#32
  let v18 : BitVec 1 := Scalar.cmpi .ne v17 c0_i32_8
  v18

def k0_cond6 (i : grid0.Coords) : BitVec 1 :=
  let arg1 : BitVec 32 := BitVec.ofNat 32 (i 1).val
  let c3_i32 : BitVec 32 := 3#32
  let v19 : BitVec 1 := Scalar.cmpi .eq arg1 c3_i32
  let c5_i32 : BitVec 32 := 5#32
  let v20 : BitVec 1 := Scalar.cmpi .eq arg1 c5_i32
  let v21 : BitVec 1 := Scalar.ori v19 v20
  let v22 : BitVec 32 := Scalar.extui v21
  let c0_i32_9 : BitVec 32 := 0#32
  let v23 : BitVec 1 := Scalar.cmpi .ne v22 c0_i32_9
  v23

def k0_cond7 (i : grid0.Coords) : BitVec 1 :=
  let arg1 : BitVec 32 := BitVec.ofNat 32 (i 1).val
  let c6_i32 : BitVec 32 := 6#32
  let v24 : BitVec 1 := Scalar.cmpi .sge arg1 c6_i32
  let v25 : BitVec 32 := Scalar.extui v24
  let c0_i32_10 : BitVec 32 := 0#32
  let v26 : BitVec 1 := Scalar.cmpi .ne v25 c0_i32_10
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S4x8192x2048 : Shape := ⟨3, ![4, 8192, 2048]⟩
abbrev S1x2048 : Shape := ⟨2, ![1, 2048]⟩
abbrev S1x2048x10240 : Shape := ⟨3, ![1, 2048, 10240]⟩
abbrev S1x64 : Shape := ⟨2, ![1, 64]⟩
abbrev S2048 : Shape := ⟨1, ![2048]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩
abbrev S2048x10240 : Shape := ⟨2, ![2048, 10240]⟩
abbrev S4x8192x10240 : Shape := ⟨3, ![4, 8192, 10240]⟩
abbrev S4x8192x1024 : Shape := ⟨3, ![4, 8192, 1024]⟩
abbrev S4x8192x4096 : Shape := ⟨3, ![4, 8192, 4096]⟩
abbrev S4x8192x8x2x64 : Shape := ⟨5, ![4, 8192, 8, 2, 64]⟩
abbrev S64 : Shape := ⟨1, ![64]⟩
abbrev S4x8192x8x2 : Shape := ⟨4, ![4, 8192, 8, 2]⟩
abbrev S4x8192x8x2x1 : Shape := ⟨5, ![4, 8192, 8, 2, 1]⟩
abbrev S1x1x1x1x64 : Shape := ⟨5, ![1, 1, 1, 1, 64]⟩
abbrev S32768x10240 : Shape := ⟨2, ![32768, 10240]⟩
abbrev S4x1024x8192 : Shape := ⟨3, ![4, 1024, 8192]⟩

abbrev nBuf : Space → Nat
  | .hbm => 103
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S1x2048, .f32⟩
  | .hbm, ⟨2, _⟩ => ⟨S1x2048x10240, .f32⟩
  | .hbm, ⟨3, _⟩ => ⟨S1x64, .f32⟩
  | .hbm, ⟨4, _⟩ => ⟨S1x64, .f32⟩
  | .hbm, ⟨5, _⟩ => ⟨S2048, .f32⟩
  | .hbm, ⟨6, _⟩ => ⟨S4x8192x2048, .f32⟩
  | .hbm, ⟨7, _⟩ => ⟨S_, .f32⟩
  | .hbm, ⟨8, _⟩ => ⟨S4x8192, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S4x8192x1, .f32⟩
  | .hbm, ⟨17, _⟩ => ⟨S4x8192x2048, .f32⟩
  | .hbm, ⟨18, _⟩ => ⟨S4x8192x2048, .f32⟩
  | .hbm, ⟨19, _⟩ => ⟨S1x1x2048, .f32⟩
  | .hbm, ⟨20, _⟩ => ⟨S4x8192x2048, .f32⟩
  | .hbm, ⟨21, _⟩ => ⟨S4x8192x2048, .f32⟩
  | .hbm, ⟨22, _⟩ => ⟨S2048x10240, .f32⟩
  | .hbm, ⟨23, _⟩ => ⟨S4x8192x10240, .f32⟩
  | .hbm, ⟨24, _⟩ => ⟨S4x8192x1024, .f32⟩
  | .hbm, ⟨25, _⟩ => ⟨S4x8192x1024, .f32⟩
  | .hbm, ⟨26, _⟩ => ⟨S4x8192x1024, .f32⟩
  | .hbm, ⟨27, _⟩ => ⟨S4x8192x1024, .f32⟩
  | .hbm, ⟨28, _⟩ => ⟨S4x8192x1024, .f32⟩
  | .hbm, ⟨29, _⟩ => ⟨S4x8192x1024, .f32⟩
  | .hbm, ⟨30, _⟩ => ⟨S4x8192x4096, .f32⟩
  | .hbm, ⟨31, _⟩ => ⟨S4x8192x8x2x64, .f32⟩
  | .hbm, ⟨32, _⟩ => ⟨S64, .f32⟩
  | .hbm, ⟨33, _⟩ => ⟨S4x8192x8x2x64, .f32⟩
  | .hbm, ⟨34, _⟩ => ⟨S_, .f32⟩
  | .hbm, ⟨35, _⟩ => ⟨S4x8192x8x2, .f32⟩
  | .hbm, ⟨36, _⟩ => ⟨S4x8192x8x2x1, .f32⟩
  | .hbm, ⟨37, _⟩ => ⟨S_, .f32⟩
  | .hbm, ⟨38, _⟩ => ⟨S4x8192x8x2x1, .f32⟩
  | .hbm, ⟨39, _⟩ => ⟨S4x8192x8x2x1, .f32⟩
  | .hbm, ⟨40, _⟩ => ⟨S_, .f32⟩
  | .hbm, ⟨41, _⟩ => ⟨S4x8192x8x2x1, .f32⟩
  | .hbm, ⟨42, _⟩ => ⟨S4x8192x8x2x1, .f32⟩
  | .hbm, ⟨43, _⟩ => ⟨S4x8192x8x2x1, .f32⟩
  | .hbm, ⟨44, _⟩ => ⟨S4x8192x8x2x64, .f32⟩
  | .hbm, ⟨45, _⟩ => ⟨S4x8192x8x2x64, .f32⟩
  | .hbm, ⟨46, _⟩ => ⟨S1x1x1x1x64, .f32⟩
  | .hbm, ⟨47, _⟩ => ⟨S4x8192x8x2x64, .f32⟩
  | .hbm, ⟨48, _⟩ => ⟨S4x8192x8x2x64, .f32⟩
  | .hbm, ⟨49, _⟩ => ⟨S_, .f32⟩
  | .hbm, ⟨50, _⟩ => ⟨S4x8192x8x2x64, .f32⟩
  | .hbm, ⟨51, _⟩ => ⟨S4x8192x8x2x64, .f32⟩
  | .hbm, ⟨52, _⟩ => ⟨S4x8192x8x2x64, .f32⟩
  | .hbm, ⟨53, _⟩ => ⟨S64, .f32⟩
  | .hbm, ⟨54, _⟩ => ⟨S4x8192x8x2x64, .f32⟩
  | .hbm, ⟨55, _⟩ => ⟨S_, .f32⟩
  | .hbm, ⟨56, _⟩ => ⟨S4x8192x8x2, .f32⟩
  | .hbm, ⟨57, _⟩ => ⟨S4x8192x8x2x1, .f32⟩
  | .hbm, ⟨58, _⟩ => ⟨S_, .f32⟩
  | .hbm, ⟨59, _⟩ => ⟨S4x8192x8x2x1, .f32⟩
  | .hbm, ⟨60, _⟩ => ⟨S4x8192x8x2x1, .f32⟩
  | .hbm, ⟨61, _⟩ => ⟨S_, .f32⟩
  | .hbm, ⟨62, _⟩ => ⟨S4x8192x8x2x1, .f32⟩
  | .hbm, ⟨63, _⟩ => ⟨S4x8192x8x2x1, .f32⟩
  | .hbm, ⟨64, _⟩ => ⟨S4x8192x8x2x1, .f32⟩
  | .hbm, ⟨65, _⟩ => ⟨S4x8192x8x2x64, .f32⟩
  | .hbm, ⟨66, _⟩ => ⟨S4x8192x8x2x64, .f32⟩
  | .hbm, ⟨67, _⟩ => ⟨S1x1x1x1x64, .f32⟩
  | .hbm, ⟨68, _⟩ => ⟨S4x8192x8x2x64, .f32⟩
  | .hbm, ⟨69, _⟩ => ⟨S4x8192x8x2x64, .f32⟩
  | .hbm, ⟨70, _⟩ => ⟨S4x8192x1024, .f32⟩
  | .hbm, ⟨71, _⟩ => ⟨S4x8192x1024, .f32⟩
  | .hbm, ⟨72, _⟩ => ⟨S4x8192x1024, .f32⟩
  | .hbm, ⟨73, _⟩ => ⟨S4x8192x1024, .f32⟩
  | .hbm, ⟨74, _⟩ => ⟨S_, .f32⟩
  | .hbm, ⟨75, _⟩ => ⟨S4x8192x1024, .f32⟩
  | .hbm, ⟨76, _⟩ => ⟨S4x8192x1024, .f32⟩
  | .hbm, ⟨77, _⟩ => ⟨S_, .f32⟩
  | .hbm, ⟨78, _⟩ => ⟨S4x8192x1024, .f32⟩
  | .hbm, ⟨79, _⟩ => ⟨S4x8192x1024, .f32⟩
  | .hbm, ⟨80, _⟩ => ⟨S4x8192x1024, .f32⟩
  | .hbm, ⟨81, _⟩ => ⟨S4x8192x1024, .f32⟩
  | .hbm, ⟨82, _⟩ => ⟨S4x8192x1024, .f32⟩
  | .hbm, ⟨83, _⟩ => ⟨S_, .f32⟩
  | .hbm, ⟨84, _⟩ => ⟨S4x8192x1024, .f32⟩
  | .hbm, ⟨85, _⟩ => ⟨S4x8192x1024, .f32⟩
  | .hbm, ⟨86, _⟩ => ⟨S_, .f32⟩
  | .hbm, ⟨87, _⟩ => ⟨S4x8192x1024, .f32⟩
  | .hbm, ⟨88, _⟩ => ⟨S4x8192x1024, .f32⟩
  | .hbm, ⟨89, _⟩ => ⟨S4x8192x1024, .f32⟩
  | .hbm, ⟨90, _⟩ => ⟨S4x8192x4096, .f32⟩
  | .hbm, ⟨91, _⟩ => ⟨S4x8192x4096, .f32⟩
  | .hbm, ⟨92, _⟩ => ⟨S_, .f32⟩
  | .hbm, ⟨93, _⟩ => ⟨S4x8192x4096, .f32⟩
  | .hbm, ⟨94, _⟩ => ⟨S4x8192x4096, .f32⟩
  | .hbm, ⟨95, _⟩ => ⟨S_, .f32⟩
  | .hbm, ⟨96, _⟩ => ⟨S4x8192x4096, .f32⟩
  | .hbm, ⟨97, _⟩ => ⟨S4x8192x4096, .f32⟩
  | .hbm, ⟨98, _⟩ => ⟨S4x8192x10240, .f32⟩
  | .hbm, ⟨99, _⟩ => ⟨S32768x10240, .f32⟩
  | .hbm, ⟨100, _⟩ => ⟨S32768x10240, .bf16⟩
  | .hbm, ⟨101, _⟩ => ⟨S4x1024x8192, .f32⟩
  | .hbm, ⟨102, _⟩ => ⟨S4x1024x8192, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_cst_8 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_call0_v0 : Ref sig .tc := ⟨.hbm, 72, rfl⟩
abbrev main_call0_v1 : Ref sig .tc := ⟨.hbm, 73, rfl⟩
abbrev main_call0_cst : Ref sig .tc := ⟨.hbm, 74, rfl⟩
abbrev main_call0_v2 : Ref sig .tc := ⟨.hbm, 75, rfl⟩
abbrev main_call0_v3 : Ref sig .tc := ⟨.hbm, 76, rfl⟩
abbrev main_call0_cst_0 : Ref sig .tc := ⟨.hbm, 77, rfl⟩
abbrev main_call0_v4 : Ref sig .tc := ⟨.hbm, 78, rfl⟩
abbrev main_call0_v5 : Ref sig .tc := ⟨.hbm, 79, rfl⟩
abbrev main_v57 : Ref sig .tc := ⟨.hbm, 80, rfl⟩
abbrev main_call1_v0 : Ref sig .tc := ⟨.hbm, 81, rfl⟩
abbrev main_call1_v1 : Ref sig .tc := ⟨.hbm, 82, rfl⟩
abbrev main_call1_cst : Ref sig .tc := ⟨.hbm, 83, rfl⟩
abbrev main_call1_v2 : Ref sig .tc := ⟨.hbm, 84, rfl⟩
abbrev main_call1_v3 : Ref sig .tc := ⟨.hbm, 85, rfl⟩
abbrev main_call1_cst_0 : Ref sig .tc := ⟨.hbm, 86, rfl⟩
abbrev main_call1_v4 : Ref sig .tc := ⟨.hbm, 87, rfl⟩
abbrev main_call1_v5 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_9 : Ref sig .tc := ⟨.hbm, 92, rfl⟩
abbrev main_v61 : Ref sig .tc := ⟨.hbm, 93, rfl⟩
abbrev main_v62 : Ref sig .tc := ⟨.hbm, 94, rfl⟩
abbrev main_cst_10 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩

abbrev nD : Nat := 1
abbrev τ : Topo := Topo.v7x

variable {F : FTy → Type} [FloatOps F]
-- ==== Kernel3.lean ====
abbrev S4x8192x2048 : Shape := ⟨3, ![4, 8192, 2048]⟩
abbrev S4x8192x1024 : Shape := ⟨3, ![4, 8192, 1024]⟩
abbrev S32768x1024 : Shape := ⟨2, ![32768, 1024]⟩
abbrev S32768x10240 : Shape := ⟨2, ![32768, 10240]⟩
abbrev S1x1024x1024 : Shape := ⟨3, ![1, 1024, 1024]⟩
abbrev S1x1024 : Shape := ⟨2, ![1, 1024]⟩
abbrev S1x1024x2048 : Shape := ⟨3, ![1, 1024, 2048]⟩
abbrev S1x2048x2048 : Shape := ⟨3, ![1, 2048, 2048]⟩
abbrev S32768x2048 : Shape := ⟨2, ![32768, 2048]⟩
abbrev S1024x1024 : Shape := ⟨2, ![1024, 1024]⟩
abbrev S1024 : Shape := ⟨1, ![1024]⟩
abbrev S1024x2048 : Shape := ⟨2, ![1024, 2048]⟩
abbrev S2048x2048 : Shape := ⟨2, ![2048, 2048]⟩
abbrev S256x2048 : Shape := ⟨2, ![256, 2048]⟩
abbrev S256x1024 : Shape := ⟨2, ![256, 1024]⟩

abbrev nBuf : Space → Nat
  | .hbm => 22
  | .vmem => 19
  | .smem => 0
  | _ => 0

abbrev bufTy : (tb : Table) → Fin (tcTables nBuf tb) → BufTy
  | .hbm, ⟨0, _⟩ => ⟨S4x8192x2048, .f32⟩
  | .hbm, ⟨1, _⟩ => ⟨S4x8192x1024, .bf16⟩
  | .hbm, ⟨2, _⟩ => ⟨S32768x1024, .bf16⟩
  | .hbm, ⟨3, _⟩ => ⟨S32768x10240, .bf16⟩
  | .hbm, ⟨4, _⟩ => ⟨S1x1024x1024, .f32⟩
  | .hbm, ⟨5, _⟩ => ⟨S1x1024, .f32⟩
  | .hbm, ⟨6, _⟩ => ⟨S1x1024x2048, .f32⟩
  | .hbm, ⟨7, _⟩ => ⟨S1x1024x2048, .f32⟩
  | .hbm, ⟨8, _⟩ => ⟨S1x2048x2048, .f32⟩
  | .hbm, ⟨9, _⟩ => ⟨S32768x2048, .f32⟩
  | .hbm, ⟨10, _⟩ => ⟨S32768x1024, .bf16⟩
  | .hbm, ⟨11, _⟩ => ⟨S1024x1024, .f32⟩
  | .hbm, ⟨12, _⟩ => ⟨S1024x1024, .bf16⟩
  | .hbm, ⟨13, _⟩ => ⟨S1024, .f32⟩
  | .hbm, ⟨14, _⟩ => ⟨S1x1024, .f32⟩
  | .hbm, ⟨15, _⟩ => ⟨S1024x2048, .f32⟩
  | .hbm, ⟨16, _⟩ => ⟨S1024x2048, .bf16⟩
  | .hbm, ⟨17, _⟩ => ⟨S1024x2048, .f32⟩
  | .hbm, ⟨18, _⟩ => ⟨S1024x2048, .bf16⟩
  | .hbm, ⟨19, _⟩ => ⟨S2048x2048, .f32⟩
  | .hbm, ⟨20, _⟩ => ⟨S2048x2048, .bf16⟩
  | .hbm, ⟨21, _⟩ => ⟨S32768x2048, .f32⟩
  | .local _ .vmem, ⟨0, _⟩ => ⟨S256x2048, .f32⟩
  | .local _ .vmem, ⟨1, _⟩ => ⟨S256x2048, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S1024x1024, .bf16⟩
  | .local _ .vmem, ⟨13, _⟩ => ⟨S1x1024, .f32⟩
  | .local _ .vmem, ⟨14, _⟩ => ⟨S1024x2048, .bf16⟩
  | .local _ .vmem, ⟨15, _⟩ => ⟨S1024x2048, .bf16⟩
  | .local _ .vmem, ⟨16, _⟩ => ⟨S2048x2048, .bf16⟩
  | .local _ .vmem, ⟨17, _⟩ => ⟨S256x2048, .f32⟩
  | .local _ .vmem, ⟨18, _⟩ => ⟨S256x2048, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S4x8192x2048 : Shape := ⟨3, ![4, 8192, 2048]⟩
abbrev S4x8192x1024 : Shape := ⟨3, ![4, 8192, 1024]⟩
abbrev S32768x1024 : Shape := ⟨2, ![32768, 1024]⟩
abbrev S32768x10240 : Shape := ⟨2, ![32768, 10240]⟩
abbrev S1x1024x1024 : Shape := ⟨3, ![1, 1024, 1024]⟩
abbrev S1x1024 : Shape := ⟨2, ![1, 1024]⟩
abbrev S1x1024x2048 : Shape := ⟨3, ![1, 1024, 2048]⟩
abbrev S1x2048x2048 : Shape := ⟨3, ![1, 2048, 2048]⟩
abbrev S32768x2048 : Shape := ⟨2, ![32768, 2048]⟩
abbrev S1024x1024 : Shape := ⟨2, ![1024, 1024]⟩
abbrev S1024 : Shape := ⟨1, ![1024]⟩
abbrev S_ : Shape := ⟨0, ![]⟩
abbrev S1024x2048 : Shape := ⟨2, ![1024, 2048]⟩
abbrev S2048x2048 : Shape := ⟨2, ![2048, 2048]⟩

abbrev nBuf : Space → Nat
  | .hbm => 43
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S4x8192x1024, .bf16⟩
  | .hbm, ⟨2, _⟩ => ⟨S32768x1024, .bf16⟩
  | .hbm, ⟨3, _⟩ => ⟨S32768x10240, .bf16⟩
  | .hbm, ⟨4, _⟩ => ⟨S1x1024x1024, .f32⟩
  | .hbm, ⟨5, _⟩ => ⟨S1x1024, .f32⟩
  | .hbm, ⟨6, _⟩ => ⟨S1x1024x2048, .f32⟩
  | .hbm, ⟨7, _⟩ => ⟨S1x1024x2048, .f32⟩
  | .hbm, ⟨8, _⟩ => ⟨S1x2048x2048, .f32⟩
  | .hbm, ⟨9, _⟩ => ⟨S32768x10240, .f32⟩
  | .hbm, ⟨10, _⟩ => ⟨S32768x1024, .f32⟩
  | .hbm, ⟨11, _⟩ => ⟨S32768x2048, .f32⟩
  | .hbm, ⟨12, _⟩ => ⟨S32768x2048, .f32⟩
  | .hbm, ⟨13, _⟩ => ⟨S32768x1024, .f32⟩
  | .hbm, ⟨14, _⟩ => ⟨S1024x1024, .f32⟩
  | .hbm, ⟨15, _⟩ => ⟨S32768x1024, .f32⟩
  | .hbm, ⟨16, _⟩ => ⟨S1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S_, .f32⟩
  | .hbm, ⟨23, _⟩ => ⟨S32768x1024, .f32⟩
  | .hbm, ⟨24, _⟩ => ⟨S32768x1024, .f32⟩
  | .hbm, ⟨25, _⟩ => ⟨S_, .f32⟩
  | .hbm, ⟨26, _⟩ => ⟨S32768x1024, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S4x8192x1024, .f32⟩
  | .hbm, ⟨31, _⟩ => ⟨S32768x1024, .f32⟩
  | .hbm, ⟨32, _⟩ => ⟨S1024x2048, .f32⟩
  | .hbm, ⟨33, _⟩ => ⟨S32768x2048, .f32⟩
  | .hbm, ⟨34, _⟩ => ⟨S32768x2048, .f32⟩
  | .hbm, ⟨35, _⟩ => ⟨S1024x2048, .f32⟩
  | .hbm, ⟨36, _⟩ => ⟨S32768x2048, .f32⟩
  | .hbm, ⟨37, _⟩ => ⟨S32768x2048, .f32⟩
  | .hbm, ⟨38, _⟩ => ⟨S32768x2048, .f32⟩
  | .hbm, ⟨39, _⟩ => ⟨S32768x2048, .f32⟩
  | .hbm, ⟨40, _⟩ => ⟨S2048x2048, .f32⟩
  | .hbm, ⟨41, _⟩ => ⟨S32768x2048, .f32⟩
  | .hbm, ⟨42, _⟩ => ⟨S32768x2048, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Proof.ProjBodyIdeal.lean ====
/-
  The body of the input projection, run once at each kind of grid point: the first column tile computes the normalized
  rows into the scratch buffer, every later one reads them there, and each writes its own tile of the output.
-/
module

public import proofs.«01_k».proof.Proof.Gen.Kernel2Ideal.Frame
public import proofs.«01_k».proof.Proof.Gen.Kernel2Ideal.Skeleton
public import Idealize.ShloMosaic.Lib.Pipeline.ValueKit
public import Idealize.ShloMosaic.Lib.WholeRead
public import Idealize.ShloMosaic.Lib.VecWindow

@[expose] public section

set_option maxRecDepth 16384

noncomputable section

namespace Cert.Proof.ProjIdeal

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x256 .bf16) (harg7 : arg7.IsWhole) (arg8 : Memref sig .tc .vmem S1024x1024 .bf16) (harg8 : arg8.IsWhole) (arg9 : Memref sig .tc .vmem S1x1024x1024 .bf16) (harg9 : arg9.IsWhole) (arg10 : Memref sig .tc .vmem S1024x2048 .bf16) (harg10 : arg10.IsWhole)
variable (x0 : Vec F S1024x2048 .f32) (x1 : Vec F S1x2048 .f32) (x2 : Vec F S2048x1024 .bf16) (x3 x4 : Vec F S1x1024 .f32)
  (x5 : Vec F S256x256 .bf16) (d6 : Vec F S1024x1024 .bf16) (d7 : Vec F S1x1024x1024 .bf16) (s : Vec F S1024x2048 .bf16)

/-- The memrefs of the body and what they hold: the six inputs, the two outputs and the scratch buffer. -/
def held (p : Vec F S1024x1024 .bf16) (v : Vec F S1x1024x1024 .bf16) (h : Vec F S1024x2048 .bf16) : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare x5
    ∗ owns (c : Thread nD τ) arg8 fullShare p ∗ owns (c : Thread nD τ) arg9 fullShare v ∗ owns (c : Thread nD τ) arg10 fullShare h)

set_option maxHeartbeats 2000000 in
/-- The first column tile: the normalized rows are computed and the queries' tile is written. -/
theorem run_first (hc0 : (Scalar.cmpi .ne (Scalar.extui (Scalar.cmpi .eq (BitVec.ofNat 32 (i 1).val) 0#32)) 0#32) = 1#1) (hc1 : k0_cond2 i = 1#1) (hc2 : ¬ k0_cond3 i = 1#1) (hc3 : ¬ k0_cond4 i = 1#1) (hc4 : ¬ k0_cond5 i = 1#1) (hc5 : ¬ k0_cond6 i = 1#1) (hc6 : ¬ k0_cond7 i = 1#1) (E : Set ℕ) :
    held c arg2 arg3 arg4 arg5 arg6 arg7 arg8 arg9 arg10 x0 x1 x2 x3 x4 x5 d6 d7 s
      ⊢ wp frame (wpE (defs₀ (F := F)) Variants.none (c : Thread nD τ) none) E (cc0_in_proj (F := F) i arg2 harg2 arg3 harg3 arg4 harg4 arg5 harg5 arg6 harg6 arg7 harg7 arg8 harg8 arg9 harg9 arg10 harg10)
          (fun _ => held c arg2 arg3 arg4 arg5 arg6 arg7 arg8 arg9 arg10 x0 x1 x2 x3 x4 x5 (k0_pay3 (k0_pay1 x0 x1) x2 x3 x5) (d7) (k0_pay1 x0 x1)) := by
  simp only [cc0_in_proj_eq_skeleton]; unfold cc0_in_proj_skel
  unfold held owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩⟩
  obtain rfl := harg2.eq_unread h2; obtain rfl := harg3.eq_unread h3; obtain rfl := harg4.eq_unread h4; obtain rfl := harg5.eq_unread h5; obtain rfl := harg6.eq_unread h6; obtain rfl := harg7.eq_unread h7; obtain rfl := harg8.eq_unread h8; obtain rfl := harg9.eq_unread h9; obtain rfl := harg10.eq_unread h10
  sl_exec (disch := first | sl_exact hc0 | sl_exact hc1 | sl_exact hc2 | sl_exact hc3 | sl_exact hc4 | sl_exact hc5 | sl_exact hc6)
  sl_step
  isplitl [H2]
  · iexists _; isplitr; swap; · iexact H2
    ipureintro
    exact h2
  isplitl [H3]
  · iexists _; isplitr; swap; · iexact H3
    ipureintro
    exact h3
  isplitl [H4]
  · iexists _; isplitr; swap; · iexact H4
    ipureintro
    exact h4
  isplitl [H5]
  · iexists _; isplitr; swap; · iexact H5
    ipureintro
    exact h5
  isplitl [H6]
  · iexists _; isplitr; swap; · iexact H6
    ipureintro
    exact h6
  isplitl [H7]
  · iexists _; isplitr; swap; · iexact H7
    ipureintro
    exact h7
  isplitl [H8]
  · iexists _; isplitr; swap; · iexact H8
    ipureintro
    frame_out
    refine (View.read_writes_full arg8.view _ _ _ _).trans ?_
    rfl
  isplitl [H9]
  · iexists _; isplitr; swap; · iexact H9
    ipureintro
    exact h9
  iexists _; isplitr; swap; · iexact H10
  ipureintro
  frame_out
  refine (View.read_writes_full arg10.view _ _ _ _).trans ?_
  rfl

set_option maxHeartbeats 2000000 in
/-- The keys' tile. -/
theorem run_keys (hc0 : ¬ (Scalar.cmpi .ne (Scalar.extui (Scalar.cmpi .eq (BitVec.ofNat 32 (i 1).val) 0#32)) 0#32) = 1#1) (hc1 : ¬ k0_cond2 i = 1#1) (hc2 : k0_cond3 i = 1#1) (hc3 : ¬ k0_cond4 i = 1#1) (hc4 : ¬ k0_cond5 i = 1#1) (hc5 : ¬ k0_cond6 i = 1#1) (hc6 : ¬ k0_cond7 i = 1#1) (E : Set ℕ) :
    held c arg2 arg3 arg4 arg5 arg6 arg7 arg8 arg9 arg10 x0 x1 x2 x3 x4 x5 d6 d7 s
      ⊢ wp frame (wpE (defs₀ (F := F)) Variants.none (c : Thread nD τ) none) E (cc0_in_proj (F := F) i arg2 harg2 arg3 harg3 arg4 harg4 arg5 harg5 arg6 harg6 arg7 harg7 arg8 harg8 arg9 harg9 arg10 harg10)
          (fun _ => held c arg2 arg3 arg4 arg5 arg6 arg7 arg8 arg9 arg10 x0 x1 x2 x3 x4 x5 (k0_pay4 s x2 x4 x5) (d7) (s)) := by
  simp only [cc0_in_proj_eq_skeleton]; unfold cc0_in_proj_skel
  unfold held owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩⟩
  obtain rfl := harg2.eq_unread h2; obtain rfl := harg3.eq_unread h3; obtain rfl := harg4.eq_unread h4; obtain rfl := harg5.eq_unread h5; obtain rfl := harg6.eq_unread h6; obtain rfl := harg7.eq_unread h7; obtain rfl := harg8.eq_unread h8; obtain rfl := harg9.eq_unread h9; obtain rfl := harg10.eq_unread h10
  sl_exec (disch := first | sl_exact hc0 | sl_exact hc1 | sl_exact hc2 | sl_exact hc3 | sl_exact hc4 | sl_exact hc5 | sl_exact hc6)
  sl_step
  isplitl [H2]
  · iexists _; isplitr; swap; · iexact H2
    ipureintro
    exact h2
  isplitl [H3]
  · iexists _; isplitr; swap; · iexact H3
    ipureintro
    exact h3
  isplitl [H4]
  · iexists _; isplitr; swap; · iexact H4
    ipureintro
    exact h4
  isplitl [H5]
  · iexists _; isplitr; swap; · iexact H5
    ipureintro
    exact h5
  isplitl [H6]
  · iexists _; isplitr; swap; · iexact H6
    ipureintro
    exact h6
  isplitl [H7]
  · iexists _; isplitr; swap; · iexact H7
    ipureintro
    exact h7
  isplitl [H8]
  · iexists _; isplitr; swap; · iexact H8
    ipureintro
    frame_out
    refine (View.read_writes_full arg8.view _ _ _ _).trans ?_
    rfl
  isplitl [H9]
  · iexists _; isplitr; swap; · iexact H9
    ipureintro
    exact h9
  iexists _; isplitr; swap; · iexact H10
  ipureintro
  exact h10

set_option maxHeartbeats 2000000 in
/-- The values' tile, written a second time transposed. -/
theorem run_vals (hc0 : ¬ (Scalar.cmpi .ne (Scalar.extui (Scalar.cmpi .eq (BitVec.ofNat 32 (i 1).val) 0#32)) 0#32) = 1#1) (hc1 : ¬ k0_cond2 i = 1#1) (hc2 : ¬ k0_cond3 i = 1#1) (hc3 : k0_cond4 i = 1#1) (hc4 : ¬ k0_cond5 i = 1#1) (hc5 : ¬ k0_cond6 i = 1#1) (hc6 : ¬ k0_cond7 i = 1#1) (E : Set ℕ) :
    held c arg2 arg3 arg4 arg5 arg6 arg7 arg8 arg9 arg10 x0 x1 x2 x3 x4 x5 d6 d7 s
      ⊢ wp frame (wpE (defs₀ (F := F)) Variants.none (c : Thread nD τ) none) E (cc0_in_proj (F := F) i arg2 harg2 arg3 harg3 arg4 harg4 arg5 harg5 arg6 harg6 arg7 harg7 arg8 harg8 arg9 harg9 arg10 harg10)
          (fun _ => held c arg2 arg3 arg4 arg5 arg6 arg7 arg8 arg9 arg10 x0 x1 x2 x3 x4 x5 (k0_pay5 s x2) (k0_pay6 s x2) (s)) := by
  simp only [cc0_in_proj_eq_skeleton]; unfold cc0_in_proj_skel
  unfold held owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩⟩
  obtain rfl := harg2.eq_unread h2; obtain rfl := harg3.eq_unread h3; obtain rfl := harg4.eq_unread h4; obtain rfl := harg5.eq_unread h5; obtain rfl := harg6.eq_unread h6; obtain rfl := harg7.eq_unread h7; obtain rfl := harg8.eq_unread h8; obtain rfl := harg9.eq_unread h9; obtain rfl := harg10.eq_unread h10
  sl_exec (disch := first | sl_exact hc0 | sl_exact hc1 | sl_exact hc2 | sl_exact hc3 | sl_exact hc4 | sl_exact hc5 | sl_exact hc6)
  sl_step
  isplitl [H2]
  · iexists _; isplitr; swap; · iexact H2
    ipureintro
    exact h2
  isplitl [H3]
  · iexists _; isplitr; swap; · iexact H3
    ipureintro
    exact h3
  isplitl [H4]
  · iexists _; isplitr; swap; · iexact H4
    ipureintro
    exact h4
  isplitl [H5]
  · iexists _; isplitr; swap; · iexact H5
    ipureintro
    exact h5
  isplitl [H6]
  · iexists _; isplitr; swap; · iexact H6
    ipureintro
    exact h6
  isplitl [H7]
  · iexists _; isplitr; swap; · iexact H7
    ipureintro
    exact h7
  isplitl [H8]
  · iexists _; isplitr; swap; · iexact H8
    ipureintro
    frame_out
    refine (View.read_writes_full arg8.view _ _ _ _).trans ?_
    rfl
  isplitl [H9]
  · iexists _; isplitr; swap; · iexact H9
    ipureintro
    frame_out
    refine (View.read_writes_full arg9.view _ _ _ _).trans ?_
    rfl
  iexists _; isplitr; swap; · iexact H10
  ipureintro
  exact h10

set_option maxHeartbeats 2000000 in
/-- The tile of the state space step's input. -/
theorem run_state (hc0 : ¬ (Scalar.cmpi .ne (Scalar.extui (Scalar.cmpi .eq (BitVec.ofNat 32 (i 1).val) 0#32)) 0#32) = 1#1) (hc1 : ¬ k0_cond2 i = 1#1) (hc2 : ¬ k0_cond3 i = 1#1) (hc3 : ¬ k0_cond4 i = 1#1) (hc4 : k0_cond5 i = 1#1) (hc5 : ¬ k0_cond6 i = 1#1) (hc6 : ¬ k0_cond7 i = 1#1) (E : Set ℕ) :
    held c arg2 arg3 arg4 arg5 arg6 arg7 arg8 arg9 arg10 x0 x1 x2 x3 x4 x5 d6 d7 s
      ⊢ wp frame (wpE (defs₀ (F := F)) Variants.none (c : Thread nD τ) none) E (cc0_in_proj (F := F) i arg2 harg2 arg3 harg3 arg4 harg4 arg5 harg5 arg6 harg6 arg7 harg7 arg8 harg8 arg9 harg9 arg10 harg10)
          (fun _ => held c arg2 arg3 arg4 arg5 arg6 arg7 arg8 arg9 arg10 x0 x1 x2 x3 x4 x5 (k0_pay7 s x2) (d7) (s)) := by
  simp only [cc0_in_proj_eq_skeleton]; unfold cc0_in_proj_skel
  unfold held owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩⟩
  obtain rfl := harg2.eq_unread h2; obtain rfl := harg3.eq_unread h3; obtain rfl := harg4.eq_unread h4; obtain rfl := harg5.eq_unread h5; obtain rfl := harg6.eq_unread h6; obtain rfl := harg7.eq_unread h7; obtain rfl := harg8.eq_unread h8; obtain rfl := harg9.eq_unread h9; obtain rfl := harg10.eq_unread h10
  sl_exec (disch := first | sl_exact hc0 | sl_exact hc1 | sl_exact hc2 | sl_exact hc3 | sl_exact hc4 | sl_exact hc5 | sl_exact hc6)
  sl_step
  isplitl [H2]
  · iexists _; isplitr; swap; · iexact H2
    ipureintro
    exact h2
  isplitl [H3]
  · iexists _; isplitr; swap; · iexact H3
    ipureintro
    exact h3
  isplitl [H4]
  · iexists _; isplitr; swap; · iexact H4
    ipureintro
    exact h4
  isplitl [H5]
  · iexists _; isplitr; swap; · iexact H5
    ipureintro
    exact h5
  isplitl [H6]
  · iexists _; isplitr; swap; · iexact H6
    ipureintro
    exact h6
  isplitl [H7]
  · iexists _; isplitr; swap; · iexact H7
    ipureintro
    exact h7
  isplitl [H8]
  · iexists _; isplitr; swap; · iexact H8
    ipureintro
    frame_out
    refine (View.read_writes_full arg8.view _ _ _ _).trans ?_
    rfl
  isplitl [H9]
  · iexists _; isplitr; swap; · iexact H9
    ipureintro
    exact h9
  iexists _; isplitr; swap; · iexact H10
  ipureintro
  exact h10

set_option maxHeartbeats 2000000 in
/-- The two tiles that are gated by themselves. -/
theorem run_silu (hc0 : ¬ (Scalar.cmpi .ne (Scalar.extui (Scalar.cmpi .eq (BitVec.ofNat 32 (i 1).val) 0#32)) 0#32) = 1#1) (hc1 : ¬ k0_cond2 i = 1#1) (hc2 : ¬ k0_cond3 i = 1#1) (hc3 : ¬ k0_cond4 i = 1#1) (hc4 : ¬ k0_cond5 i = 1#1) (hc5 : k0_cond6 i = 1#1) (hc6 : ¬ k0_cond7 i = 1#1) (E : Set ℕ) :
    held c arg2 arg3 arg4 arg5 arg6 arg7 arg8 arg9 arg10 x0 x1 x2 x3 x4 x5 d6 d7 s
      ⊢ wp frame (wpE (defs₀ (F := F)) Variants.none (c : Thread nD τ) none) E (cc0_in_proj (F := F) i arg2 harg2 arg3 harg3 arg4 harg4 arg5 harg5 arg6 harg6 arg7 harg7 arg8 harg8 arg9 harg9 arg10 harg10)
          (fun _ => held c arg2 arg3 arg4 arg5 arg6 arg7 arg8 arg9 arg10 x0 x1 x2 x3 x4 x5 (k0_pay8 s x2) (d7) (s)) := by
  simp only [cc0_in_proj_eq_skeleton]; unfold cc0_in_proj_skel
  unfold held owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩⟩
  obtain rfl := harg2.eq_unread h2; obtain rfl := harg3.eq_unread h3; obtain rfl := harg4.eq_unread h4; obtain rfl := harg5.eq_unread h5; obtain rfl := harg6.eq_unread h6; obtain rfl := harg7.eq_unread h7; obtain rfl := harg8.eq_unread h8; obtain rfl := harg9.eq_unread h9; obtain rfl := harg10.eq_unread h10
  sl_exec (disch := first | sl_exact hc0 | sl_exact hc1 | sl_exact hc2 | sl_exact hc3 | sl_exact hc4 | sl_exact hc5 | sl_exact hc6)
  sl_step
  isplitl [H2]
  · iexists _; isplitr; swap; · iexact H2
    ipureintro
    exact h2
  isplitl [H3]
  · iexists _; isplitr; swap; · iexact H3
    ipureintro
    exact h3
  isplitl [H4]
  · iexists _; isplitr; swap; · iexact H4
    ipureintro
    exact h4
  isplitl [H5]
  · iexists _; isplitr; swap; · iexact H5
    ipureintro
    exact h5
  isplitl [H6]
  · iexists _; isplitr; swap; · iexact H6
    ipureintro
    exact h6
  isplitl [H7]
  · iexists _; isplitr; swap; · iexact H7
    ipureintro
    exact h7
  isplitl [H8]
  · iexists _; isplitr; swap; · iexact H8
    ipureintro
    frame_out
    refine (View.read_writes_full arg8.view _ _ _ _).trans ?_
    rfl
  isplitl [H9]
  · iexists _; isplitr; swap; · iexact H9
    ipureintro
    exact h9
  iexists _; isplitr; swap; · iexact H10
  ipureintro
  exact h10

set_option maxHeartbeats 2000000 in
/-- The four gate tiles. -/
theorem run_gate (hc0 : ¬ (Scalar.cmpi .ne (Scalar.extui (Scalar.cmpi .eq (BitVec.ofNat 32 (i 1).val) 0#32)) 0#32) = 1#1) (hc1 : ¬ k0_cond2 i = 1#1) (hc2 : ¬ k0_cond3 i = 1#1) (hc3 : ¬ k0_cond4 i = 1#1) (hc4 : ¬ k0_cond5 i = 1#1) (hc5 : ¬ k0_cond6 i = 1#1) (hc6 : k0_cond7 i = 1#1) (E : Set ℕ) :
    held c arg2 arg3 arg4 arg5 arg6 arg7 arg8 arg9 arg10 x0 x1 x2 x3 x4 x5 d6 d7 s
      ⊢ wp frame (wpE (defs₀ (F := F)) Variants.none (c : Thread nD τ) none) E (cc0_in_proj (F := F) i arg2 harg2 arg3 harg3 arg4 harg4 arg5 harg5 arg6 harg6 arg7 harg7 arg8 harg8 arg9 harg9 arg10 harg10)
          (fun _ => held c arg2 arg3 arg4 arg5 arg6 arg7 arg8 arg9 arg10 x0 x1 x2 x3 x4 x5 (k0_pay9 s x2) (d7) (s)) := by
  simp only [cc0_in_proj_eq_skeleton]; unfold cc0_in_proj_skel
  unfold held owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩⟩
  obtain rfl := harg2.eq_unread h2; obtain rfl := harg3.eq_unread h3; obtain rfl := harg4.eq_unread h4; obtain rfl := harg5.eq_unread h5; obtain rfl := harg6.eq_unread h6; obtain rfl := harg7.eq_unread h7; obtain rfl := harg8.eq_unread h8; obtain rfl := harg9.eq_unread h9; obtain rfl := harg10.eq_unread h10
  sl_exec (disch := first | sl_exact hc0 | sl_exact hc1 | sl_exact hc2 | sl_exact hc3 | sl_exact hc4 | sl_exact hc5 | sl_exact hc6)
  sl_step
  isplitl [H2]
  · iexists _; isplitr; swap; · iexact H2
    ipureintro
    exact h2
  isplitl [H3]
  · iexists _; isplitr; swap; · iexact H3
    ipureintro
    exact h3
  isplitl [H4]
  · iexists _; isplitr; swap; · iexact H4
    ipureintro
    exact h4
  isplitl [H5]
  · iexists _; isplitr; swap; · iexact H5
    ipureintro
    exact h5
  isplitl [H6]
  · iexists _; isplitr; swap; · iexact H6
    ipureintro
    exact h6
  isplitl [H7]
  · iexists _; isplitr; swap; · iexact H7
    ipureintro
    exact h7
  isplitl [H8]
  · iexists _; isplitr; swap; · iexact H8
    ipureintro
    frame_out
    refine (View.read_writes_full arg8.view _ _ _ _).trans ?_
    rfl
  isplitl [H9]
  · iexists _; isplitr; swap; · iexact H9
    ipureintro
    exact h9
  iexists _; isplitr; swap; · iexact H10
  ipureintro
  exact h10

end Cert.Proof.ProjIdeal

end
-- ==== Proof.ProjFrameIdeal.lean ====
/-
  The launch of the input projection: what each window and the scratch buffer hold around the body, the body at every
  grid point, and the run of the whole program.  A grid point is a row tile and one of its ten column tiles; the
  normalized rows stay in the scratch buffer from the first column tile on, and the transposed values' tile stays in
  its buffer from the third column tile until the last one, where it is written back.
-/
module

public import proofs.«01_k».proof.Proof.ProjBodyIdeal
public import Idealize.ShloMosaic.Lib.Pipeline.FrameBody
public import Idealize.ShloMosaic.Lib.Claim

@[expose] public section

set_option maxRecDepth 16384

noncomputable section

namespace Cert.Proof.ProjIdeal

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the conditions hold -/

theorem cond_0 : ∀ t : Fin grid0.N, (Scalar.cmpi .ne (Scalar.extui (Scalar.cmpi .eq (BitVec.ofNat 32 (grid0.coords t 1).val) 0#32)) 0#32) = 1#1 ↔ t.val % 10 = 0 := by
  decide +kernel
theorem cond_1 : ∀ t : Fin grid0.N, k0_cond2 (grid0.coords t) = 1#1 ↔ t.val % 10 = 0 := by decide +kernel
theorem cond_2 : ∀ t : Fin grid0.N, k0_cond3 (grid0.coords t) = 1#1 ↔ t.val % 10 = 1 := by decide +kernel
theorem cond_3 : ∀ t : Fin grid0.N, k0_cond4 (grid0.coords t) = 1#1 ↔ t.val % 10 = 2 := by decide +kernel
theorem cond_4 : ∀ t : Fin grid0.N, k0_cond5 (grid0.coords t) = 1#1 ↔ t.val % 10 = 4 := by decide +kernel
theorem cond_5 : ∀ t : Fin grid0.N, k0_cond6 (grid0.coords t) = 1#1 ↔ (t.val % 10 = 3 ∨ t.val % 10 = 5) := by decide +kernel
theorem cond_6 : ∀ t : Fin grid0.N, k0_cond7 (grid0.coords t) = 1#1 ↔ 6 ≤ t.val % 10 := by decide +kernel

theorem live_6 : ∀ t : Fin cfg0.N, cfg0.idle 6 (cfg0.grid.coords t) = false :=
  (by decide +kernel : ∀ t : Fin grid0.N, idle0 6 (grid0.coords t) = false)

theorem live_7 : ∀ t : Fin cfg0.N, t.val % 10 = 2 → cfg0.idle 7 (cfg0.grid.coords t) = false :=
  (by decide +kernel : ∀ t : Fin grid0.N, t.val % 10 = 2 → idle0 7 (grid0.coords t) = false)

theorem idle_7 : ∀ t : Fin cfg0.N, t.val % 10 ≠ 2 → cfg0.idle 7 (cfg0.grid.coords t) = true :=
  (by decide +kernel : ∀ t : Fin grid0.N, t.val % 10 ≠ 2 → idle0 7 (grid0.coords t) = true)

theorem lt_320 (t : Fin cfg0.N) : t.val < 320 := lt_of_lt_of_eq t.isLt N_0

/-- The point of column tile `k` in the row tile that point `n` lies in. -/
def inRow (n : ℕ) (k : Fin 10) : Fin cfg0.N :=
  ⟨(10 * (n / 10) + k.val) % 320, lt_of_lt_of_eq (Nat.mod_lt _ (by decide)) N_0.symm⟩

theorem inRow_self (t : Fin cfg0.N) (k : Fin 10) (h : t.val % 10 = k.val) : inRow t.val k = t := by
  have := lt_320 t
  apply Fin.ext
  show (10 * (t.val / 10) + k.val) % 320 = t.val
  omega

theorem inRow_succ (n : ℕ) (k : Fin 10) (h : n % 10 ≠ 9) : inRow (n + 1) k = inRow n k := by
  have e : (n + 1) / 10 = n / 10 := by omega
  unfold inRow
  simp only [e]

/-! ## What the buffers hold -/

/-- The normalized rows of the row tile that point `n` lies in. -/
def hRow (c : Dev nD) (n : ℕ) : Vec F S1024x2048 .bf16 := k0_pay1 (iblk m c 0 (inRow n 0)) (iblk m c 1 (inRow n 0))

/-- The output's tile at point `t`. -/
def projAt (c : Dev nD) (t : Fin cfg0.N) : Vec F S1024x1024 .bf16 :=
  if t.val % 10 = 0 then k0_pay3 (hRow m c t.val) (iblk m c 2 t) (iblk m c 3 t) (iblk m c 5 t)
  else if t.val % 10 = 1 then k0_pay4 (hRow m c t.val) (iblk m c 2 t) (iblk m c 4 t) (iblk m c 5 t)
  else if t.val % 10 = 2 then k0_pay5 (hRow m c t.val) (iblk m c 2 t)
  else if t.val % 10 = 4 then k0_pay7 (hRow m c t.val) (iblk m c 2 t)
  else if t.val % 10 = 3 ∨ t.val % 10 = 5 then k0_pay8 (hRow m c t.val) (iblk m c 2 t)
  else k0_pay9 (hRow m c t.val) (iblk m c 2 t)

/-- The tile of transposed values of the row tile that point `n` lies in. -/
def valsOf (c : Dev nD) (n : ℕ) : Vec F S1x1024x1024 .bf16 := k0_pay6 (hRow m c n) (iblk m c 2 (inRow n 2))

/-- The invariant before point `n`: inside a row tile the scratch buffer holds its normalized rows. -/
def rowInv (c : Dev nD) (n : ℕ) : sProp 𝕄 :=
  if n % 10 = 0 then Pipeline.ΦA spec0 c
  else iprop(owns (c : Thread nD τ) (Memref.whole cc0_scratch0) fullShare (hRow m c (n - 1)) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => projAt m c t
    | ⟨7, _⟩ => valsOf m c t.val
  Φ t := rowInv m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = projAt m c t := by dsimp only [dats]
theorem after_7 (c : Dev nD) (t : Fin cfg0.N) : (dats m 0 c).after 7 t = valsOf m c t.val := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

theorem inv_start (c : Dev nD) (t : Fin cfg0.N) : (dats m 0 c).Φ t.castSucc = rowInv m c t.val := by dsimp only [dats]; rfl
theorem inv_end (c : Dev nD) (t : Fin cfg0.N) : (dats m 0 c).Φ t.succ = rowInv m c (t.val + 1) := by dsimp only [dats]; rfl

/-- From the third column tile on the buffer of the transposed values holds their tile. -/
theorem before_7 (c : Dev nD) (d) : ∀ (n : ℕ) (hn : n < cfg0.N), 3 ≤ n % 10 → (dats m 0 c).before 7 ⟨n, hn⟩ d = valsOf m c n := by
  intro n
  induction n with
  | zero => intro _ h; omega
  | succ n ih =>
    intro hn h
    have hn' : n < cfg0.N := Nat.lt_of_succ_lt hn
    have e : valsOf m c (n + 1) = valsOf m c n := by
      unfold valsOf hRow
      rw [inRow_succ n 0 (by omega), inRow_succ n 2 (by omega)]
    have hfl : (cfg0.win 7).flush ⟨n, hn'⟩ = false := by
      rw [Bool.eq_false_iff]
      exact fun hf => by have := (flush0_7 ⟨n, hn'⟩).mp hf; dsimp only at this; omega
    rw [Pipeline.Dat.before_of_pos (dats m 0 c) 7 ⟨n + 1, hn⟩ (Nat.succ_ne_zero n) rfl d]
    show (if (cfg0.win 7).flush ⟨n, hn'⟩ = true then d else (dats m 0 c).left 7 ⟨n, hn'⟩ d) = _
    rw [hfl, if_neg Bool.false_ne_true, e]
    by_cases h2 : n % 10 = 2
    · unfold Pipeline.Dat.left
      rw [live_7 ⟨n, hn'⟩ h2]
      exact after_7 m c ⟨n, hn'⟩
    · unfold Pipeline.Dat.left
      rw [idle_7 ⟨n, hn'⟩ h2]
      exact ih hn' (by omega)

/-- The scratch buffer owned at some contents, and the generator's register. -/
theorem PhiA_eq (c : Dev nD) :
    (Pipeline.ΦA spec0 c : sProp 𝕄)
      = iprop((∃ d, owns (c : Thread nD τ) (Memref.whole cc0_scratch0) fullShare d) ∗ (∃ r, prngReg c r)) := by
  unfold Pipeline.ΦA; rw [scopedRest0_eq]; simp only [owns_whole]; try rfl

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (dats m 0 c).leavesExact 6 t ∗ (dats m 0 c).leavesExact 7 t)

theorem leaves_6 (c : Dev nD) (t : Fin cfg0.N) :
    (dats m 0 c).leavesExact 6 t = owns (c : Thread nD τ) (st0_6 t) fullShare (projAt m c t) := by
  unfold Dat.leavesExact; rw [live_6 t, after_6]

theorem leaves_7_live (c : Dev nD) (t : Fin cfg0.N) (h : t.val % 10 = 2) :
    (dats m 0 c).leavesExact 7 t = owns (c : Thread nD τ) (st0_7 t) fullShare (valsOf m c t.val) := by
  unfold Dat.leavesExact; rw [live_7 t h, after_7]

/-- At a point that stores nothing into it, the transposed values' buffer is left as found. -/
theorem leaves_7_idle (c : Dev nD) (t : Fin cfg0.N) (h : t.val % 10 ≠ 2) (d) :
    owns (c : Thread nD τ) (st0_7 t) fullShare ((dats m 0 c).before 7 t d) ⊢ (dats m 0 c).leavesExact 7 t := by
  by_cases hf : t.val % 10 = 9
  · unfold Dat.leavesExact
    rw [idle_7 t h, (flush0_7 t).mpr hf, after_7]
    exact (congrArg (owns (c : Thread nD τ) (st0_7 t) fullShare) (before_7 m c d t.val t.isLt (by omega))).le
  · rw [(dats m 0 c).leavesExact_idle 7 t (idle_7 t h) (by rw [Bool.eq_false_iff]; exact fun e => hf ((flush0_7 t).mp e))]
    iintro H
    iexists d
    iexact H

/-- The scratch buffer's contents for the rest of the row tile, or forgotten at its end. -/
theorem inv_fold (c : Dev nD) (t : Fin cfg0.N) :
    iprop(owns (c : Thread nD τ) (Memref.whole cc0_scratch0) fullShare (hRow m c t.val) ∗ (∃ r, prngReg c r))
      ⊢ rowInv m c (t.val + 1) := by
  unfold rowInv
  split
  · rw [PhiA_eq]
    iintro ⟨H, G⟩
    isplitl [H]
    · iexists _; iexact H
    iexact G
  · exact .rfl

theorem inv_open (c : Dev nD) (t : Fin cfg0.N) (h : t.val % 10 ≠ 0) :
    rowInv m c t.val ⊢ iprop(owns (c : Thread nD τ) (Memref.whole cc0_scratch0) fullShare (hRow m c t.val) ∗ (∃ r, prngReg c r)) := by
  unfold rowInv
  rw [if_neg h]
  have e : hRow m c (t.val - 1) = hRow m c t.val := by
    obtain ⟨n, hn⟩ : ∃ n, t.val = n + 1 := ⟨t.val - 1, by omega⟩
    rw [hn]
    unfold hRow
    rw [inRow_succ n 0 (by omega)]
    rfl
  rw [e]

set_option maxHeartbeats 2000000 in
theorem sound_first (c : Dev nD) (t : Fin cfg0.N) (h : t.val % 10 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, after_0, after_1, after_2, after_3, after_4, after_5]
  rw [show (dats m 0 c).owesAt () t.succ = (dats m 0 c).owesAt () t.castSucc from rfl, inv_start, inv_end, leaves_6]
  have hr : hRow m c t.val = k0_pay1 (iblk m c 0 t) (iblk m c 1 t) := by unfold hRow; rw [inRow_self t 0 h]
  have hi : rowInv m c t.val = iprop((∃ d, owns (c : Thread nD τ) (Memref.whole cc0_scratch0) fullShare d) ∗ (∃ r, prngReg c r)) := by
    unfold rowInv; rw [if_pos h, PhiA_eq]
  rw [hi]
  iintro ⟨⟨⟨%s, S⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (wp_wand_r frame (wpE (defs₀ (F := F)) Variants.none c none) Set.univ)
  isplitl [S H0 H1 H2 H3 H4 H5 H6 H7]
  · iapply (run_first c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole _)
      (iblk m c 0 t) (iblk m c 1 t) (iblk m c 2 t) (iblk m c 3 t) (iblk m c 4 t) (iblk m c 5 t)
      ((dats m 0 c).before 6 t d6) ((dats m 0 c).before 7 t d7) s ((cond_0 t).mpr h) ((cond_1 t).mpr h) (fun e => by have := (cond_2 t).mp e; omega) (fun e => by have := (cond_3 t).mp e; omega) (fun e => by have := (cond_4 t).mp e; omega) (fun e => by have := (cond_5 t).mp e; omega) (fun e => by have := (cond_6 t).mp e; omega) Set.univ)
    unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact S
  unfold held
  iintro %r ⟨H0, H1, H2, H3, H4, H5, H6, H7, S⟩
  rw [projAt, if_pos h]
  rw [← hr]
  isplitl [S Hg]
  · iapply (inv_fold m c t)
    isplitl [S]; · iexact S
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (leaves_7_idle m c t (by omega) d7)
  iexact H7

set_option maxHeartbeats 2000000 in
theorem sound_keys (c : Dev nD) (t : Fin cfg0.N) (h : t.val % 10 = 1) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, after_0, after_1, after_2, after_3, after_4, after_5]
  rw [show (dats m 0 c).owesAt () t.succ = (dats m 0 c).owesAt () t.castSucc from rfl, inv_start, inv_end, leaves_6]
  iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩⟩
  ihave HI := (inv_open m c t (by omega)) $$ HI
  icases HI with ⟨S, Hg⟩
  iapply (wp_wand_r frame (wpE (defs₀ (F := F)) Variants.none c none) Set.univ)
  isplitl [S H0 H1 H2 H3 H4 H5 H6 H7]
  · iapply (run_keys c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole _)
      (iblk m c 0 t) (iblk m c 1 t) (iblk m c 2 t) (iblk m c 3 t) (iblk m c 4 t) (iblk m c 5 t)
      ((dats m 0 c).before 6 t d6) ((dats m 0 c).before 7 t d7) (hRow m c t.val) (fun e => by have := (cond_0 t).mp e; omega) (fun e => by have := (cond_1 t).mp e; omega) ((cond_2 t).mpr h) (fun e => by have := (cond_3 t).mp e; omega) (fun e => by have := (cond_4 t).mp e; omega) (fun e => by have := (cond_5 t).mp e; omega) (fun e => by have := (cond_6 t).mp e; omega) Set.univ)
    unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact S
  unfold held
  iintro %r ⟨H0, H1, H2, H3, H4, H5, H6, H7, S⟩
  rw [projAt, if_neg (by omega), if_pos h]
  isplitl [S Hg]
  · iapply (inv_fold m c t)
    isplitl [S]; · iexact S
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (leaves_7_idle m c t (by omega) d7)
  iexact H7

set_option maxHeartbeats 2000000 in
theorem sound_vals (c : Dev nD) (t : Fin cfg0.N) (h : t.val % 10 = 2) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, after_0, after_1, after_2, after_3, after_4, after_5]
  rw [show (dats m 0 c).owesAt () t.succ = (dats m 0 c).owesAt () t.castSucc from rfl, inv_start, inv_end, leaves_6]
  iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩⟩
  ihave HI := (inv_open m c t (by omega)) $$ HI
  icases HI with ⟨S, Hg⟩
  iapply (wp_wand_r frame (wpE (defs₀ (F := F)) Variants.none c none) Set.univ)
  isplitl [S H0 H1 H2 H3 H4 H5 H6 H7]
  · iapply (run_vals c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole _)
      (iblk m c 0 t) (iblk m c 1 t) (iblk m c 2 t) (iblk m c 3 t) (iblk m c 4 t) (iblk m c 5 t)
      ((dats m 0 c).before 6 t d6) ((dats m 0 c).before 7 t d7) (hRow m c t.val) (fun e => by have := (cond_0 t).mp e; omega) (fun e => by have := (cond_1 t).mp e; omega) (fun e => by have := (cond_2 t).mp e; omega) ((cond_3 t).mpr h) (fun e => by have := (cond_4 t).mp e; omega) (fun e => by have := (cond_5 t).mp e; omega) (fun e => by have := (cond_6 t).mp e; omega) Set.univ)
    unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact S
  unfold held
  iintro %r ⟨H0, H1, H2, H3, H4, H5, H6, H7, S⟩
  rw [projAt, if_neg (by omega), if_neg (by omega), if_pos h]
  isplitl [S Hg]
  · iapply (inv_fold m c t)
    isplitl [S]; · iexact S
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  rw [leaves_7_live m c t h, valsOf, inRow_self t 2 h]
  iexact H7

set_option maxHeartbeats 2000000 in
theorem sound_state (c : Dev nD) (t : Fin cfg0.N) (h : t.val % 10 = 4) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, after_0, after_1, after_2, after_3, after_4, after_5]
  rw [show (dats m 0 c).owesAt () t.succ = (dats m 0 c).owesAt () t.castSucc from rfl, inv_start, inv_end, leaves_6]
  iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩⟩
  ihave HI := (inv_open m c t (by omega)) $$ HI
  icases HI with ⟨S, Hg⟩
  iapply (wp_wand_r frame (wpE (defs₀ (F := F)) Variants.none c none) Set.univ)
  isplitl [S H0 H1 H2 H3 H4 H5 H6 H7]
  · iapply (run_state c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole _)
      (iblk m c 0 t) (iblk m c 1 t) (iblk m c 2 t) (iblk m c 3 t) (iblk m c 4 t) (iblk m c 5 t)
      ((dats m 0 c).before 6 t d6) ((dats m 0 c).before 7 t d7) (hRow m c t.val) (fun e => by have := (cond_0 t).mp e; omega) (fun e => by have := (cond_1 t).mp e; omega) (fun e => by have := (cond_2 t).mp e; omega) (fun e => by have := (cond_3 t).mp e; omega) ((cond_4 t).mpr h) (fun e => by have := (cond_5 t).mp e; omega) (fun e => by have := (cond_6 t).mp e; omega) Set.univ)
    unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact S
  unfold held
  iintro %r ⟨H0, H1, H2, H3, H4, H5, H6, H7, S⟩
  rw [projAt, if_neg (by omega), if_neg (by omega), if_neg (by omega), if_pos h]
  isplitl [S Hg]
  · iapply (inv_fold m c t)
    isplitl [S]; · iexact S
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (leaves_7_idle m c t (by omega) d7)
  iexact H7

set_option maxHeartbeats 2000000 in
theorem sound_silu (c : Dev nD) (t : Fin cfg0.N) (h : (t.val % 10 = 3 ∨ t.val % 10 = 5)) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, after_0, after_1, after_2, after_3, after_4, after_5]
  rw [show (dats m 0 c).owesAt () t.succ = (dats m 0 c).owesAt () t.castSucc from rfl, inv_start, inv_end, leaves_6]
  iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩⟩
  ihave HI := (inv_open m c t (by omega)) $$ HI
  icases HI with ⟨S, Hg⟩
  iapply (wp_wand_r frame (wpE (defs₀ (F := F)) Variants.none c none) Set.univ)
  isplitl [S H0 H1 H2 H3 H4 H5 H6 H7]
  · iapply (run_silu c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole _)
      (iblk m c 0 t) (iblk m c 1 t) (iblk m c 2 t) (iblk m c 3 t) (iblk m c 4 t) (iblk m c 5 t)
      ((dats m 0 c).before 6 t d6) ((dats m 0 c).before 7 t d7) (hRow m c t.val) (fun e => by have := (cond_0 t).mp e; omega) (fun e => by have := (cond_1 t).mp e; omega) (fun e => by have := (cond_2 t).mp e; omega) (fun e => by have := (cond_3 t).mp e; omega) (fun e => by have := (cond_4 t).mp e; omega) ((cond_5 t).mpr h) (fun e => by have := (cond_6 t).mp e; omega) Set.univ)
    unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact S
  unfold held
  iintro %r ⟨H0, H1, H2, H3, H4, H5, H6, H7, S⟩
  rw [projAt, if_neg (by omega), if_neg (by omega), if_neg (by omega), if_neg (by omega), if_pos h]
  isplitl [S Hg]
  · iapply (inv_fold m c t)
    isplitl [S]; · iexact S
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (leaves_7_idle m c t (by omega) d7)
  iexact H7

set_option maxHeartbeats 2000000 in
theorem sound_gate (c : Dev nD) (t : Fin cfg0.N) (h : 6 ≤ t.val % 10) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, after_0, after_1, after_2, after_3, after_4, after_5]
  rw [show (dats m 0 c).owesAt () t.succ = (dats m 0 c).owesAt () t.castSucc from rfl, inv_start, inv_end, leaves_6]
  iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩⟩
  ihave HI := (inv_open m c t (by omega)) $$ HI
  icases HI with ⟨S, Hg⟩
  iapply (wp_wand_r frame (wpE (defs₀ (F := F)) Variants.none c none) Set.univ)
  isplitl [S H0 H1 H2 H3 H4 H5 H6 H7]
  · iapply (run_gate c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole _)
      (iblk m c 0 t) (iblk m c 1 t) (iblk m c 2 t) (iblk m c 3 t) (iblk m c 4 t) (iblk m c 5 t)
      ((dats m 0 c).before 6 t d6) ((dats m 0 c).before 7 t d7) (hRow m c t.val) (fun e => by have := (cond_0 t).mp e; omega) (fun e => by have := (cond_1 t).mp e; omega) (fun e => by have := (cond_2 t).mp e; omega) (fun e => by have := (cond_3 t).mp e; omega) (fun e => by have := (cond_4 t).mp e; omega) (fun e => by have := (cond_5 t).mp e; omega) ((cond_6 t).mpr h) Set.univ)
    unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact S
  unfold held
  iintro %r ⟨H0, H1, H2, H3, H4, H5, H6, H7, S⟩
  rw [projAt, if_neg (by omega), if_neg (by omega), if_neg (by omega), if_neg (by omega), if_neg (by omega)]
  isplitl [S Hg]
  · iapply (inv_fold m c t)
    isplitl [S]; · iexact S
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (leaves_7_idle m c t (by omega) d7)
  iexact H7

theorem sound_body (c : Dev nD) (t : Fin cfg0.N) :
    bodyPre m c t ⊢ wp frame (wpE (defs₀ (F := F)) Variants.none c none) Set.univ (bodyAt0 t) (fun _ => bodyPost m c t) := by
  by_cases h0 : t.val % 10 = 0
  · exact sound_first m c t h0
  by_cases h1 : t.val % 10 = 1
  · exact sound_keys m c t h1
  by_cases h2 : t.val % 10 = 2
  · exact sound_vals m c t h2
  by_cases h4 : t.val % 10 = 4
  · exact sound_state m c t h4
  by_cases h5 : t.val % 10 = 3 ∨ t.val % 10 = 5
  · exact sound_silu m c t h5
  · exact sound_gate m c t (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- The launch: it terminates, every array is at what the proof data say, and every semaphore is at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c w => by unfold Dat.share; split <;> rfl)
    (howed := fun _ _ => rfl) (V := V m) (hmain := hmain m Variants.none) (hA := A_eq m)
    (hin := fun c => (show Pipeline.ΦA spec0 c ⊢ rowInv m c 0 from by unfold rowInv; rw [if_pos rfl]))
    (hout := fun c => (show rowInv m c (Fin.last cfg0.N).val ⊢ Pipeline.ΦA spec0 c from by
      rw [show (Fin.last cfg0.N).val = 320 from N_0]; unfold rowInv; rw [if_pos rfl]))

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the arguments end unchanged and every semaphore counter is zero. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Proof.ProjIdeal

end
-- ==== Proof.ProjBlocks.lean ====
/- What each window's block of the input projection holds, in terms of the argument arrays. -/
module

public import proofs.«01_k».proof.Proof.ProjFrameIdeal
public import Idealize.ShloMosaic.Lib.Pipeline.ValueKit

@[expose] public section

set_option maxRecDepth 16384

noncomputable section

namespace Cert.Proof.ProjIdeal

open Cert.Kernel2Ideal Cert.Kernel2Ideal.Gen
open Idealize.ShloMosaic Idealize.ShloMosaic.TcCoe Idealize.SL.Sem
open Idealize.ShloMosaic.Pipeline (Dat)

variable (m : (ℓ : Loc nD τ sig) → Buf (Elt Ideal) ℓ)

/-- Which block of its array each window holds at grid point `t`. -/
theorem idx : ∀ t : Fin cfg0.N, win0_0.index t = ![t.val / 10, 0] ∧ win0_1.index t = ![0, 0] ∧ win0_2.index t = ![0, t.val % 10]
    ∧ win0_3.index t = ![0, 0] ∧ win0_4.index t = ![0, 0] ∧ win0_5.index t = ![0, 0] ∧ win0_6.index t = ![t.val / 10, t.val % 10]
    ∧ win0_7.index t = ![t.val / 80, 0, t.val / 10 % 8] :=
  (by decide +kernel : ∀ t : Fin grid0.N, _)

/-- The quotient by 64, rounded down, as the host computes it. -/
def fdiv (x : IVec S256x256 32) : IVec S256x256 32 :=
  select (andi (cmpi .ne (signi x) (broadcastInDim S256x256 ![] bcast_S_S256x256 (signi (id (constantI S_ 32 64#32)))))
      (cmpi .ne (Host.remsi x (broadcastInDim S256x256 ![] bcast_S_S256x256 (id (constantI S_ 32 64#32)))) (broadcastInDim S256x256 ![] bcast_S_S256x256 (constantI S_ 32 0#32))))
    (subi (Host.divsi x (broadcastInDim S256x256 ![] bcast_S_S256x256 (id (constantI S_ 32 64#32)))) (broadcastInDim S256x256 ![] bcast_S_S256x256 (constantI S_ 32 1#32)))
    (Host.divsi x (broadcastInDim S256x256 ![] bcast_S_S256x256 (id (constantI S_ 32 64#32))))

/-- The 0/1 matrix of the groups of 64. -/
def gsum : FVec Ideal S256x256 .bf16 := uitofp .bf16 (cmpi .eq (fdiv (iotaInDim S256x256 32 0)) (fdiv (iotaInDim S256x256 32 1)))

/-- A gain of 64 entries, repeated for 16 groups. -/
def tiled (G : FVec Ideal S1x64 .f32) : FVec Ideal S1024 .f32 :=
  shapeCast S1024 (broadcastInDim S16x64 ![0, 1] bcast_S1x64_S16x64_0_1 (shapeCast S1x64 (shapeCast S64 G shapeCasts_S1x64_S64) shapeCasts_S64_S1x64)) shapeCasts_S16x64_S1024

theorem V_v0 (c : Dev nD) : V m c main_v0 = shapeCast S32768x2048 (m ((c : Thread nD τ).loc main_arg0)) shapeCasts_S4x8192x2048_S32768x2048 := by
  entry_read; rfl

theorem V_v7 (c : Dev nD) : V m c main_v7 = shapeCast S1x1024 (mulf (tiled (m ((c : Thread nD τ).loc main_arg3)))
    (broadcastInDim S1024 ![] bcast_S_S1024 (constant S_ .f32 0x3E000000#32))) shapeCasts_S1024_S1x1024 := by
  entry_read; rfl

theorem V_v12 (c : Dev nD) : V m c main_v12 = shapeCast S1x1024 (tiled (m ((c : Thread nD τ).loc main_arg4))) shapeCasts_S1024_S1x1024 := by
  entry_read; rfl

theorem V_v14 (c : Dev nD) : V m c main_v14 = shapeCast S1x2048 (shapeCast S2048 (m ((c : Thread nD τ).loc main_arg1)) shapeCasts_S1x2048_S2048) shapeCasts_S2048_S1x2048 := by
  entry_read; rfl

theorem V_v16 (c : Dev nD) : V m c main_v16 = shapeCast S2048x10240 (m ((c : Thread nD τ).loc main_arg2)) shapeCasts_S1x2048x10240_S2048x10240 := by
  entry_read; rfl

theorem V_v22 (c : Dev nD) : V m c main_v22 = gsum := by
  entry_read; rfl

/-! The blocks. -/

/-- The array row that row `r` of point `t`'s block sits at. -/
abbrev row (t : Fin cfg0.N) (r : Fin 1024) : Fin 32768 := ⟨1024 * (t.val / 10) + r.val, by have := lt_320 t; omega⟩

/-- The array column that column `n` of point `t`'s block sits at. -/
abbrev col (t : Fin cfg0.N) (n : Fin 1024) : Fin 10240 := ⟨1024 * (t.val % 10) + n.val, by omega⟩

theorem cast0 (A : FVec Ideal S4x8192x2048 .f32) (R : Fin 32768) (d : Fin 2048) :
    shapeCast S32768x2048 A shapeCasts_S4x8192x2048_S32768x2048 (ix2 R d)
      = A (ix3 ⟨R.val / 8192, by omega⟩ ⟨R.val % 8192, by omega⟩ d) := by
  pointwise

theorem blk0 (c : Dev nD) (t : Fin cfg0.N) (r : Fin 1024) (d : Fin 2048) :
    iblk m c 0 t (ix2 r d) = m ((c : Thread nD τ).loc main_arg0) (ix3 ⟨(row t r).val / 8192, by omega⟩ ⟨(row t r).val % 8192, by omega⟩ d) := by
  refine Eq.trans ?_ (cast0 (m ((c : Thread nD τ).loc main_arg0)) (row t r) d)
  blk_simp [iblk]; rw [V_v0]; blk_ext [idx t]

theorem cast1 (A : FVec Ideal S1x2048 .f32) (d : Fin 2048) :
    shapeCast S1x2048 (shapeCast S2048 A shapeCasts_S1x2048_S2048) shapeCasts_S2048_S1x2048 (ix2 0 d) = A (ix2 0 d) := by
  pointwise

theorem blk1 (c : Dev nD) (t : Fin cfg0.N) (d : Fin 2048) :
    iblk m c 1 t (ix2 0 d) = m ((c : Thread nD τ).loc main_arg1) (ix2 0 d) := by
  refine Eq.trans ?_ (cast1 (m ((c : Thread nD τ).loc main_arg1)) d)
  blk_simp [iblk]; rw [V_v14]; blk_ext [idx t]

theorem cast2 (A : FVec Ideal S1x2048x10240 .f32) (d : Fin 2048) (n : Fin 10240) :
    shapeCast S2048x10240 A shapeCasts_S1x2048x10240_S2048x10240 (ix2 d n) = A (ix3 0 d n) := by
  pointwise

theorem blk2 (c : Dev nD) (t : Fin cfg0.N) (d : Fin 2048) (n : Fin 1024) :
    iblk m c 2 t (ix2 d n) = m ((c : Thread nD τ).loc main_arg2) (ix3 0 d (col t n)) := by
  refine Eq.trans ?_ (cast2 (m ((c : Thread nD τ).loc main_arg2)) d (col t n))
  blk_simp [iblk]; rw [V_v16]; blk_ext [idx t]

theorem tiled_at (G : FVec Ideal S1x64 .f32) (h : Fin 8) (c : Fin 2) (e : Fin 64) :
    tiled G (ix1 ⟨h.val * 128 + c.val * 64 + e.val, by omega⟩) = G (ix2 0 e) := by
  pointwise [tiled]

/-- Entry `e` of the query gain, times the 1/8 the queries are scaled by. -/
def scaledGain (G : FVec Ideal S1x64 .f32) (e : Fin 64) : EReal := G (ix2 0 e) * Ideal.ofBits .f32 0x3E000000#32

theorem mulG_at (T : FVec Ideal S1024 .f32) (n : Fin 1024) :
    shapeCast S1x1024 (mulf T (broadcastInDim S1024 ![] bcast_S_S1024 (constant S_ .f32 0x3E000000#32))) shapeCasts_S1024_S1x1024 (ix2 0 n)
      = T (ix1 n) * Ideal.ofBits .f32 0x3E000000#32 := by
  pointwise

theorem scaleG_at (G : FVec Ideal S1x64 .f32) (h : Fin 8) (c : Fin 2) (e : Fin 64) :
    shapeCast S1x1024 (mulf (tiled G) (broadcastInDim S1024 ![] bcast_S_S1024 (constant S_ .f32 0x3E000000#32))) shapeCasts_S1024_S1x1024
      (ix2 0 ⟨h.val * 128 + c.val * 64 + e.val, by omega⟩) = scaledGain G e := by
  rw [mulG_at, tiled_at]; rfl

theorem rowG_at (T : FVec Ideal S1024 .f32) (n : Fin 1024) : shapeCast S1x1024 T shapeCasts_S1024_S1x1024 (ix2 0 n) = T (ix1 n) := by
  pointwise

theorem blk3 (c : Dev nD) (t : Fin cfg0.N) (h : Fin 8) (b : Fin 2) (e : Fin 64) :
    iblk m c 3 t (ix2 0 ⟨h.val * 128 + b.val * 64 + e.val, by omega⟩)
      = scaledGain (m ((c : Thread nD τ).loc main_arg3)) e := by
  refine Eq.trans ?_ (scaleG_at (m ((c : Thread nD τ).loc main_arg3)) h b e)
  blk_simp [iblk]; rw [V_v7]; blk_ext [idx t]

theorem blk4 (c : Dev nD) (t : Fin cfg0.N) (h : Fin 8) (b : Fin 2) (e : Fin 64) :
    iblk m c 4 t (ix2 0 ⟨h.val * 128 + b.val * 64 + e.val, by omega⟩) = m ((c : Thread nD τ).loc main_arg4) (ix2 0 e) := by
  refine Eq.trans ?_ (tiled_at (m ((c : Thread nD τ).loc main_arg4)) h b e)
  refine Eq.trans ?_ (rowG_at _ _)
  blk_simp [iblk]; rw [V_v12]; blk_ext [idx t]

theorem blk5 (c : Dev nD) (t : Fin cfg0.N) (e k : Fin 256) : iblk m c 5 t (ix2 e k) = gsum (ix2 e k) := by
  blk_simp [iblk]; rw [V_v22]; blk_ext [idx t]

/-- Reading an array at the place of block index `(r, n)` of point `t`. -/
theorem emb_6 (t : Fin cfg0.N) (r n : Fin 1024) (f : S32768x10240.Idx → EReal) :
    f (((cfg0.win 6).blk t).view.emb (ix2 r n)) = f (ix2 (row t r) (col t n)) := by
  blk_ext [idx t]

theorem emb_7 (t : Fin cfg0.N) (e s : Fin 1024) (f : S4x1024x8192.Idx → EReal) :
    f (((cfg0.win 7).blk t).view.emb (ix3 0 e s))
      = f (ix3 ⟨t.val / 80, by have := lt_320 t; omega⟩ e ⟨1024 * (t.val / 10 % 8) + s.val, by omega⟩) := by
  blk_ext [idx t]

/-! The 0/1 matrix. -/

/-- The host's word for a quotient by 64, rounded down. -/
def quot (w : BitVec 32) : BitVec 32 :=
  Scalar.select
    (IntOp.andi (IntOp.cmpi .ne (if w = 0 then 0 else if w.msb = true then -1 else 1) (if (64#32 : BitVec 32) = 0 then 0 else if (64#32 : BitVec 32).msb = true then -1 else 1 : BitVec 32))
      (IntOp.cmpi .ne (IntOp.remsi .host w 64#32) 0#32))
    (IntOp.subi (IntOp.divsi .host w 64#32) 1#32) (IntOp.divsi .host w 64#32)

theorem quot_at : ∀ e : Fin 256, quot (BitVec.ofNat 32 e.val) = BitVec.ofNat 32 (e.val / 64) := by
  decide +kernel

theorem gsum_word (e k : Fin 256) :
    gsum (ix2 e k) = FloatOps.uitofp (F := Ideal) .bf16 (IntOp.cmpi .eq (quot (BitVec.ofNat 32 e.val)) (quot (BitVec.ofNat 32 k.val))) := by
  pointwise [gsum, fdiv]
  rfl

theorem gsum_at (e k : Fin 256) : gsum (ix2 e k) = if e.val / 64 = k.val / 64 then 1 else 0 := by
  rw [gsum_word, quot_at, quot_at]
  have he : e.val / 64 < 4 := by omega
  have hk : k.val / 64 < 4 := by omega
  generalize e.val / 64 = a at he ⊢
  generalize k.val / 64 = b at hk ⊢
  interval_cases a <;> interval_cases b <;> simp [IntOp.cmpi, FloatOps.uitofp]

end Cert.Proof.ProjIdeal

end
-- ==== Proof.ProjRef.lean ====
/- What the input projection's reference computes, in named steps, each read at one index. -/
module

public import proofs.«01_k».proof.Proof.Gen.Reference2Ideal.Run
public import Idealize.ShloMosaic.Lib.Pipeline.ValueKit

@[expose] public section

set_option maxRecDepth 16384

noncomputable section

namespace Cert.Proof.ProjRef

open Cert.Reference2Ideal Cert.Reference2Ideal.Gen
open Idealize.ShloMosaic Idealize.ShloMosaic.TcCoe

/-- The normalized rows of x, times the gain. -/
def hid (A0 : FVec Ideal S4x8192x2048 .f32) (A1 : FVec Ideal S1x2048 .f32) : FVec Ideal S4x8192x2048 .f32 :=
  mulf (mulf A0 (broadcastInDim S4x8192x2048 ![0, 1, 2] bcast_S4x8192x1_S4x8192x2048_0_1_2 (Host.rsqrt (addf (Host.divf (broadcastInDim S4x8192x1 ![0, 1] bcast_S4x8192_S4x8192x1_0_1 (Host.reduceAdd (mulf A0 A0) (constant S_ .f32 0x00000000#32) reducesTo_S4x8192x2048_S4x8192_d2 h_S_)) (broadcastInDim S4x8192x1 ![] bcast_S_S4x8192x1 (constant S_ .f32 0x45000000#32))) (broadcastInDim S4x8192x1 ![] bcast_S_S4x8192x1 (constant S_ .f32 0x358637BD#32)))))) (broadcastInDim S4x8192x2048 ![0, 1, 2] bcast_S1x1x2048_S4x8192x2048_0_1_2 (broadcastInDim S1x1x2048 ![2] bcast_S2048_S1x1x2048_2 (shapeCast _ A1 shapeCasts_S1x2048_S2048)))

/-- The product with the weights. -/
def acc (A0 : FVec Ideal S4x8192x2048 .f32) (A1 : FVec Ideal S1x2048 .f32) (A2 : FVec Ideal S1x2048x10240 .f32) : FVec Ideal S4x8192x10240 .f32 :=
  Host.dotGeneral dot_S4x8192x2048_S2048x10240_S4x8192x10240_2_0_01_1_n_n none (hid A0 A1) (shapeCast _ A2 shapeCasts_S1x2048x10240_S2048x10240)

/-- Each group of 64 columns normalized, times the gain. -/
def norm (Y : FVec Ideal S4x8192x1024 .f32) (G : FVec Ideal S1x64 .f32) : FVec Ideal S4x8192x8x2x64 .f32 :=
  mulf (mulf (shapeCast _ Y shapeCasts_S4x8192x1024_S4x8192x8x2x64) (broadcastInDim S4x8192x8x2x64 ![0, 1, 2, 3, 4] bcast_S4x8192x8x2x1_S4x8192x8x2x64_0_1_2_3_4 (Host.rsqrt (addf (Host.divf (broadcastInDim S4x8192x8x2x1 ![0, 1, 2, 3] bcast_S4x8192x8x2_S4x8192x8x2x1_0_1_2_3 (Host.reduceAdd (mulf (shapeCast _ Y shapeCasts_S4x8192x1024_S4x8192x8x2x64) (shapeCast _ Y shapeCasts_S4x8192x1024_S4x8192x8x2x64)) (constant S_ .f32 0x00000000#32) reducesTo_S4x8192x8x2x64_S4x8192x8x2_d4 h_S_)) (broadcastInDim S4x8192x8x2x1 ![] bcast_S_S4x8192x8x2x1 (constant S_ .f32 0x42800000#32))) (broadcastInDim S4x8192x8x2x1 ![] bcast_S_S4x8192x8x2x1 (constant S_ .f32 0x358637BD#32)))))) (broadcastInDim S4x8192x8x2x64 ![0, 1, 2, 3, 4] bcast_S1x1x1x1x64_S4x8192x8x2x64_0_1_2_3_4 (broadcastInDim S1x1x1x1x64 ![4] bcast_S64_S1x1x1x1x64_4 (shapeCast _ G shapeCasts_S1x64_S64)))

/-- The queries: the normalized groups times 1/8. -/
def queries (Y : FVec Ideal S4x8192x1024 .f32) (G : FVec Ideal S1x64 .f32) : FVec Ideal S4x8192x1024 .f32 :=
  shapeCast _ (mulf (norm Y G) (broadcastInDim S4x8192x8x2x64 ![] bcast_S_S4x8192x8x2x64 (constant S_ .f32 0x3E000000#32))) shapeCasts_S4x8192x8x2x64_S4x8192x1024

/-- The keys. -/
def keys (Y : FVec Ideal S4x8192x1024 .f32) (G : FVec Ideal S1x64 .f32) : FVec Ideal S4x8192x1024 .f32 :=
  shapeCast _ (norm Y G) shapeCasts_S4x8192x8x2x64_S4x8192x1024

/-- `z · sigmoid z`. -/
def silu (Z : FVec Ideal S4x8192x1024 .f32) : FVec Ideal S4x8192x1024 .f32 :=
  mulf Z (Host.divf (broadcastInDim S4x8192x1024 ![] bcast_S_S4x8192x1024 (constant S_ .f32 0x3F800000#32)) (addf (broadcastInDim S4x8192x1024 ![] bcast_S_S4x8192x1024 (constant S_ .f32 0x3F800000#32)) (Host.exp (Host.negf Z))))

/-- `sigmoid z`. -/
def gate (Z : FVec Ideal S4x8192x4096 .f32) : FVec Ideal S4x8192x4096 .f32 :=
  Host.divf (broadcastInDim S4x8192x4096 ![] bcast_S_S4x8192x4096 (constant S_ .f32 0x3F800000#32)) (addf (broadcastInDim S4x8192x4096 ![] bcast_S_S4x8192x4096 (constant S_ .f32 0x3F800000#32)) (Host.exp (Host.negf Z)))

/-- Seven arrays side by side. -/
def cat (u0 u1 u2 u3 u4 u5 : FVec Ideal S4x8192x1024 .f32) (u6 : FVec Ideal S4x8192x4096 .f32) : FVec Ideal S4x8192x10240 .f32 :=
  concatenate S4x8192x10240 2 [⟨S4x8192x1024, u0⟩, ⟨S4x8192x1024, u1⟩, ⟨S4x8192x1024, u2⟩, ⟨S4x8192x1024, u3⟩, ⟨S4x8192x1024, u4⟩, ⟨S4x8192x1024, u5⟩, ⟨S4x8192x4096, u6⟩] concatenates_S4x8192x1024_S4x8192x1024_S4x8192x1024_S4x8192x1024_S4x8192x1024_S4x8192x1024_S4x8192x4096_S4x8192x10240_d2

/-- The first result, of the product `P` and the two gains. -/
def rows (P : FVec Ideal S4x8192x10240 .f32) (A3 A4 : FVec Ideal S1x64 .f32) : FVec Ideal S32768x10240 .bf16 :=
  truncf .bf16 (shapeCast _ (cat (queries (extractStridedSlice S4x8192x1024 ![0, 0, 0] P slices_S4x8192x10240_S4x8192x1024_0_0_0) A3)
    (keys (extractStridedSlice S4x8192x1024 ![0, 0, 1024] P slices_S4x8192x10240_S4x8192x1024_0_0_1024) A4)
    (extractStridedSlice S4x8192x1024 ![0, 0, 2048] P slices_S4x8192x10240_S4x8192x1024_0_0_2048)
    (silu (extractStridedSlice S4x8192x1024 ![0, 0, 3072] P slices_S4x8192x10240_S4x8192x1024_0_0_3072))
    (extractStridedSlice S4x8192x1024 ![0, 0, 4096] P slices_S4x8192x10240_S4x8192x1024_0_0_4096)
    (silu (extractStridedSlice S4x8192x1024 ![0, 0, 5120] P slices_S4x8192x10240_S4x8192x1024_0_0_5120))
    (gate (extractStridedSlice S4x8192x4096 ![0, 0, 6144] P slices_S4x8192x10240_S4x8192x4096_0_0_6144)))
    shapeCasts_S4x8192x10240_S32768x10240) bitsLt_bf16_f32

/-- The second result, of the product `P`. -/
def vals (P : FVec Ideal S4x8192x10240 .f32) : FVec Ideal S4x1024x8192 .bf16 :=
  truncf .bf16 (transpose S4x1024x8192 [0, 2, 1] (extractStridedSlice S4x8192x1024 ![0, 0, 2048] P slices_S4x8192x10240_S4x8192x1024_0_0_2048) transposes_S4x8192x1024_S4x1024x8192_0_2_1) bitsLt_bf16_f32

theorem res_eq (m : (ℓ : Loc nD τ sig) → Buf (Elt Ideal) ℓ) (c : Dev nD) : Cert.Reference2Ideal.Value.res_main_v67 m c
    = rows (acc (m ((c.tc : Thread nD τ).loc main_arg0)) (m ((c.tc : Thread nD τ).loc main_arg1)) (m ((c.tc : Thread nD τ).loc main_arg2)))
      (m ((c.tc : Thread nD τ).loc main_arg3)) (m ((c.tc : Thread nD τ).loc main_arg4)) := by
  unfold Cert.Reference2Ideal.Value.res_main_v67
  rfl

variable (A0 : FVec Ideal S4x8192x2048 .f32) (A1 : FVec Ideal S1x2048 .f32) (A2 : FVec Ideal S1x2048x10240 .f32)

/-- The factor a row of x is normalized by. -/
def scaleOf (X : Fin 2048 → EReal) : EReal :=
  Ideal.rsqrt (Ideal.div (∑ d, X d * X d) (Ideal.ofBits .f32 0x45000000#32) + Ideal.ofBits .f32 0x358637BD#32)

theorem hid_at (i : Fin 4) (s : Fin 8192) (d : Fin 2048) : hid A0 A1 (ix3 i s d)
    = A0 (ix3 i s d) * scaleOf (fun d => A0 (ix3 i s d)) * A1 (ix2 0 d) := by
  unfold scaleOf
  pointwise [hid]

theorem acc_at (i : Fin 4) (s : Fin 8192) (n : Fin 10240) : acc A0 A1 A2 (ix3 i s n)
    = ∑ d, hid A0 A1 (ix3 i s d) * A2 (ix3 0 d n) := by
  pointwise [acc]

/-- The factor a group of 64 columns is normalized by. -/
def groupOf (X : Fin 64 → EReal) : EReal :=
  Ideal.rsqrt (Ideal.div (∑ d, X d * X d) (Ideal.ofBits .f32 0x42800000#32) + Ideal.ofBits .f32 0x358637BD#32)

theorem norm_at (Y : FVec Ideal S4x8192x1024 .f32) (G : FVec Ideal S1x64 .f32) (i : Fin 4) (s : Fin 8192) (h : Fin 8) (c : Fin 2) (e : Fin 64) :
    norm Y G (ix5 i s h c e) = Y (ix3 i s ⟨h.val * 128 + c.val * 64 + e.val, by omega⟩)
      * groupOf (fun e => Y (ix3 i s ⟨h.val * 128 + c.val * 64 + e.val, by omega⟩)) * G (ix2 0 e) := by
  unfold groupOf
  pointwise [norm]

theorem queries_at (Y : FVec Ideal S4x8192x1024 .f32) (G : FVec Ideal S1x64 .f32) (i : Fin 4) (s : Fin 8192) (h : Fin 8) (c : Fin 2) (e : Fin 64) :
    queries Y G (ix3 i s ⟨h.val * 128 + c.val * 64 + e.val, by omega⟩) = norm Y G (ix5 i s h c e) * Ideal.ofBits .f32 0x3E000000#32 := by
  pointwise [queries]

theorem keys_at (Y : FVec Ideal S4x8192x1024 .f32) (G : FVec Ideal S1x64 .f32) (i : Fin 4) (s : Fin 8192) (h : Fin 8) (c : Fin 2) (e : Fin 64) :
    keys Y G (ix3 i s ⟨h.val * 128 + c.val * 64 + e.val, by omega⟩) = norm Y G (ix5 i s h c e) := by
  pointwise [keys]

theorem silu_at (Z : FVec Ideal S4x8192x1024 .f32) (i : Fin 4) (s : Fin 8192) (n : Fin 1024) :
    silu Z (ix3 i s n) = Z (ix3 i s n) * Ideal.logistic (Z (ix3 i s n)) := by
  pointwise [silu]
  delta Ideal.logistic
  rfl

theorem gate_at (Z : FVec Ideal S4x8192x4096 .f32) (i : Fin 4) (s : Fin 8192) (n : Fin 4096) :
    gate Z (ix3 i s n) = Ideal.logistic (Z (ix3 i s n)) := by
  pointwise [gate]
  delta Ideal.logistic
  rfl

section Cat
variable (u0 u1 u2 u3 u4 u5 : FVec Ideal S4x8192x1024 .f32) (u6 : FVec Ideal S4x8192x4096 .f32) (i : Fin 4) (s : Fin 8192) (n : Fin 1024)
theorem cat_0 : cat u0 u1 u2 u3 u4 u5 u6 (ix3 i s ⟨n.val, by omega⟩) = u0 (ix3 i s n) := by
  pointwise [cat]
theorem cat_1 : cat u0 u1 u2 u3 u4 u5 u6 (ix3 i s ⟨1024 + n.val, by omega⟩) = u1 (ix3 i s n) := by
  pointwise [cat]
theorem cat_2 : cat u0 u1 u2 u3 u4 u5 u6 (ix3 i s ⟨2048 + n.val, by omega⟩) = u2 (ix3 i s n) := by
  pointwise [cat]
  rw [dif_neg (by omega), dif_neg (by omega), dif_pos (by omega)]
  exact congrArg (fun z => u2 (ix3 i s z)) (Fin.ext (by dsimp only; omega))
theorem cat_3 : cat u0 u1 u2 u3 u4 u5 u6 (ix3 i s ⟨3072 + n.val, by omega⟩) = u3 (ix3 i s n) := by
  pointwise [cat]
  rw [dif_neg (by omega), dif_neg (by omega), dif_neg (by omega), dif_pos (by omega)]
  exact congrArg (fun z => u3 (ix3 i s z)) (Fin.ext (by dsimp only; omega))
theorem cat_4 : cat u0 u1 u2 u3 u4 u5 u6 (ix3 i s ⟨4096 + n.val, by omega⟩) = u4 (ix3 i s n) := by
  pointwise [cat]
  rw [dif_neg (by omega), dif_neg (by omega), dif_neg (by omega), dif_neg (by omega), dif_pos (by omega)]
  exact congrArg (fun z => u4 (ix3 i s z)) (Fin.ext (by dsimp only; omega))
theorem cat_5 : cat u0 u1 u2 u3 u4 u5 u6 (ix3 i s ⟨5120 + n.val, by omega⟩) = u5 (ix3 i s n) := by
  pointwise [cat]
  rw [dif_neg (by omega), dif_neg (by omega), dif_neg (by omega), dif_neg (by omega), dif_neg (by omega), dif_pos (by omega)]
  exact congrArg (fun z => u5 (ix3 i s z)) (Fin.ext (by dsimp only; omega))
theorem cat_6 (n : Fin 4096) : cat u0 u1 u2 u3 u4 u5 u6 (ix3 i s ⟨6144 + n.val, by omega⟩) = u6 (ix3 i s n) := by
  pointwise [cat]
  rw [dif_neg (by omega), dif_neg (by omega), dif_neg (by omega), dif_neg (by omega), dif_neg (by omega), dif_neg (by omega)]
  exact congrArg (fun z => u6 (ix3 i s z)) (Fin.ext (by dsimp only; omega))
end Cat

variable (P : FVec Ideal S4x8192x10240 .f32) (A3 A4 : FVec Ideal S1x64 .f32) (i : Fin 4) (s : Fin 8192)

theorem flat_at (X : FVec Ideal S4x8192x10240 .f32) (R : Fin 32768) (n : Fin 10240) :
    (truncf .bf16 (shapeCast S32768x10240 X shapeCasts_S4x8192x10240_S32768x10240) bitsLt_bf16_f32 : FVec Ideal S32768x10240 .bf16) (ix2 R n)
      = X (ix3 ⟨R.val / 8192, by omega⟩ ⟨R.val % 8192, by omega⟩ n) := by
  pointwise

theorem vals_at (e : Fin 1024) : vals P (ix3 i e s) = P (ix3 i s ⟨2048 + e.val, by omega⟩) := by
  pointwise [vals]

theorem slice_0 (n : Fin 1024) : (extractStridedSlice S4x8192x1024 ![0, 0, 0] P slices_S4x8192x10240_S4x8192x1024_0_0_0 : FVec Ideal S4x8192x1024 .f32) (ix3 i s n)
    = P (ix3 i s ⟨n.val, by omega⟩) := by pointwise
theorem slice_1 (n : Fin 1024) : (extractStridedSlice S4x8192x1024 ![0, 0, 1024] P slices_S4x8192x10240_S4x8192x1024_0_0_1024 : FVec Ideal S4x8192x1024 .f32) (ix3 i s n)
    = P (ix3 i s ⟨1024 + n.val, by omega⟩) := by pointwise
theorem slice_2 (n : Fin 1024) : (extractStridedSlice S4x8192x1024 ![0, 0, 2048] P slices_S4x8192x10240_S4x8192x1024_0_0_2048 : FVec Ideal S4x8192x1024 .f32) (ix3 i s n)
    = P (ix3 i s ⟨2048 + n.val, by omega⟩) := by pointwise
theorem slice_3 (n : Fin 1024) : (extractStridedSlice S4x8192x1024 ![0, 0, 3072] P slices_S4x8192x10240_S4x8192x1024_0_0_3072 : FVec Ideal S4x8192x1024 .f32) (ix3 i s n)
    = P (ix3 i s ⟨3072 + n.val, by omega⟩) := by pointwise
theorem slice_4 (n : Fin 1024) : (extractStridedSlice S4x8192x1024 ![0, 0, 4096] P slices_S4x8192x10240_S4x8192x1024_0_0_4096 : FVec Ideal S4x8192x1024 .f32) (ix3 i s n)
    = P (ix3 i s ⟨4096 + n.val, by omega⟩) := by pointwise
theorem slice_5 (n : Fin 1024) : (extractStridedSlice S4x8192x1024 ![0, 0, 5120] P slices_S4x8192x10240_S4x8192x1024_0_0_5120 : FVec Ideal S4x8192x1024 .f32) (ix3 i s n)
    = P (ix3 i s ⟨5120 + n.val, by omega⟩) := by pointwise
theorem slice_6 (n : Fin 4096) : (extractStridedSlice S4x8192x4096 ![0, 0, 6144] P slices_S4x8192x10240_S4x8192x4096_0_0_6144 : FVec Ideal S4x8192x4096 .f32) (ix3 i s n)
    = P (ix3 i s ⟨6144 + n.val, by omega⟩) := by pointwise

variable (R : Fin 32768)

/-- Row `R` of the product. -/
abbrev prow (n : Fin 10240) : EReal := P (ix3 ⟨R.val / 8192, by omega⟩ ⟨R.val % 8192, by omega⟩ n)

theorem rows_queries (h : Fin 8) (c : Fin 2) (e : Fin 64) : rows P A3 A4 (ix2 R ⟨h.val * 128 + c.val * 64 + e.val, by omega⟩)
    = prow P R ⟨h.val * 128 + c.val * 64 + e.val, by omega⟩ * groupOf (fun e => prow P R ⟨h.val * 128 + c.val * 64 + e.val, by omega⟩)
      * A3 (ix2 0 e) * Ideal.ofBits .f32 0x3E000000#32 := by
  unfold rows
  rw [flat_at]
  refine (cat_0 _ _ _ _ _ _ _ _ _ ⟨h.val * 128 + c.val * 64 + e.val, by omega⟩).trans ?_
  rw [queries_at, norm_at]
  simp only [slice_0]

theorem rows_keys (h : Fin 8) (c : Fin 2) (e : Fin 64) : rows P A3 A4 (ix2 R ⟨1024 + (h.val * 128 + c.val * 64 + e.val), by omega⟩)
    = prow P R ⟨1024 + (h.val * 128 + c.val * 64 + e.val), by omega⟩
      * groupOf (fun e => prow P R ⟨1024 + (h.val * 128 + c.val * 64 + e.val), by omega⟩) * A4 (ix2 0 e) := by
  unfold rows
  rw [flat_at]
  refine (cat_1 _ _ _ _ _ _ _ _ _ ⟨h.val * 128 + c.val * 64 + e.val, by omega⟩).trans ?_
  rw [keys_at, norm_at]
  simp only [slice_1]

theorem rows_vals (n : Fin 1024) : rows P A3 A4 (ix2 R ⟨2048 + n.val, by omega⟩) = prow P R ⟨2048 + n.val, by omega⟩ := by
  unfold rows
  rw [flat_at]
  exact (cat_2 _ _ _ _ _ _ _ _ _ n).trans (slice_2 P _ _ n)

theorem rows_silu (n : Fin 1024) : rows P A3 A4 (ix2 R ⟨3072 + n.val, by omega⟩)
    = prow P R ⟨3072 + n.val, by omega⟩ * Ideal.logistic (prow P R ⟨3072 + n.val, by omega⟩) := by
  unfold rows
  rw [flat_at]
  refine (cat_3 _ _ _ _ _ _ _ _ _ n).trans ?_
  rw [silu_at, slice_3]

theorem rows_state (n : Fin 1024) : rows P A3 A4 (ix2 R ⟨4096 + n.val, by omega⟩) = prow P R ⟨4096 + n.val, by omega⟩ := by
  unfold rows
  rw [flat_at]
  exact (cat_4 _ _ _ _ _ _ _ _ _ n).trans (slice_4 P _ _ n)

theorem rows_silu' (n : Fin 1024) : rows P A3 A4 (ix2 R ⟨5120 + n.val, by omega⟩)
    = prow P R ⟨5120 + n.val, by omega⟩ * Ideal.logistic (prow P R ⟨5120 + n.val, by omega⟩) := by
  unfold rows
  rw [flat_at]
  refine (cat_5 _ _ _ _ _ _ _ _ _ n).trans ?_
  rw [silu_at, slice_5]

theorem rows_gate (n : Fin 4096) : rows P A3 A4 (ix2 R ⟨6144 + n.val, by omega⟩) = Ideal.logistic (prow P R ⟨6144 + n.val, by omega⟩) := by
  unfold rows
  rw [flat_at]
  refine (cat_6 _ _ _ _ _ _ _ _ _ n).trans ?_
  rw [gate_at, slice_6]

end Cert.Proof.ProjRef

end
-- ==== Proof.ProjPoint.lean ====
/- What the input projection's body computes, read at one index. -/
module

public import proofs.«01_k».proof.Proof.ProjFrameIdeal
public import proofs.«01_k».proof.Proof.ProjRef

@[expose] public section

set_option maxRecDepth 16384

noncomputable section

namespace Cert.Proof.ProjIdeal

open Cert.Kernel2Ideal Cert.Kernel2Ideal.Gen
open Idealize.ShloMosaic Idealize.ShloMosaic.TcCoe

theorem pay1_at (X : Vec Ideal S1024x2048 .f32) (G : Vec Ideal S1x2048 .f32) (r : Fin 1024) (d : Fin 2048) :
    k0_pay1 X G (ix2 r d) = X (ix2 r d) * ProjRef.scaleOf (fun d => X (ix2 r d)) * G (ix2 0 d) := by
  unfold ProjRef.scaleOf
  pointwise [k0_pay1]

theorem pay2_at (H : Vec Ideal S1024x2048 .bf16) (W : Vec Ideal S2048x1024 .bf16) (r : Fin 1024) (n : Fin 1024) :
    k0_pay2 H W (ix2 r n) = ∑ d, H (ix2 r d) * W (ix2 d n) := by
  pointwise [k0_pay2]

theorem pay5_at (H : Vec Ideal S1024x2048 .bf16) (W : Vec Ideal S2048x1024 .bf16) (r : Fin 1024) (n : Fin 1024) :
    k0_pay5 H W (ix2 r n) = k0_pay2 H W (ix2 r n) := rfl

theorem pay7_at (H : Vec Ideal S1024x2048 .bf16) (W : Vec Ideal S2048x1024 .bf16) (r : Fin 1024) (n : Fin 1024) :
    k0_pay7 H W (ix2 r n) = k0_pay2 H W (ix2 r n) := rfl

theorem pay8_at (H : Vec Ideal S1024x2048 .bf16) (W : Vec Ideal S2048x1024 .bf16) (r : Fin 1024) (n : Fin 1024) :
    k0_pay8 H W (ix2 r n) = k0_pay2 H W (ix2 r n) * Ideal.logistic (k0_pay2 H W (ix2 r n)) := rfl

theorem pay9_at (H : Vec Ideal S1024x2048 .bf16) (W : Vec Ideal S2048x1024 .bf16) (r : Fin 1024) (n : Fin 1024) :
    k0_pay9 H W (ix2 r n) = Ideal.logistic (k0_pay2 H W (ix2 r n)) := rfl

theorem turn_at (A : FVec Ideal S1024x1024 .f32) (e s : Fin 1024) :
    (shapeCast S1x1024x1024 (truncf .bf16 (transpose S1024x1024 [1, 0] A transposes_S1024x1024_p1_0_S1024x1024) bitsLt_bf16_f32) shapeCasts_S1024x1024_S1x1024x1024 : FVec Ideal S1x1024x1024 .bf16)
      (ix3 0 e s) = A (ix2 s e) := by
  pointwise

theorem pay6_at (H : Vec Ideal S1024x2048 .bf16) (W : Vec Ideal S2048x1024 .bf16) (e s : Fin 1024) :
    k0_pay6 H W (ix3 0 e s) = k0_pay2 H W (ix2 s e) := turn_at (k0_pay2 H W) e s

/-- What the rounding of the squares leaves out. -/
def rest (A : FVec Ideal S1024x1024 .f32) : FVec Ideal S1024x1024 .f32 := subf (mulf A A) (mulf A A)

theorem rest_at (A : FVec Ideal S1024x1024 .f32) (r n : Fin 1024) :
    rest A (ix2 r n) = A (ix2 r n) * A (ix2 r n) - A (ix2 r n) * A (ix2 r n) := rfl

/-- The squares of 256 columns from column `o` summed by the 0/1 matrix `g`, and what their rounding left out. -/
def quarter0 (A B : FVec Ideal S1024x1024 .f32) (g : FVec Ideal S256x256 .bf16) : FVec Ideal S1024x256 .f32 :=
  addf (matmul dot_S1024x256_S256x256_S1024x256_1_0_0_1_n_n none (extractStridedSlice S1024x256 ![0, 0] (truncf .bf16 (mulf A A) bitsLt_bf16_f32) slices_S1024x1024_o0_0_S1024x256) g (constant S1024x256 .f32 0x00000000#32))
    (matmul dot_S1024x256_S256x256_S1024x256_1_0_0_1_n_n none (extractStridedSlice S1024x256 ![0, 0] (truncf .bf16 B bitsLt_bf16_f32) slices_S1024x1024_o0_0_S1024x256) g (constant S1024x256 .f32 0x00000000#32))
def quarter1 (A B : FVec Ideal S1024x1024 .f32) (g : FVec Ideal S256x256 .bf16) : FVec Ideal S1024x256 .f32 :=
  addf (matmul dot_S1024x256_S256x256_S1024x256_1_0_0_1_n_n none (extractStridedSlice S1024x256 ![0, 256] (truncf .bf16 (mulf A A) bitsLt_bf16_f32) slices_S1024x1024_o0_256_S1024x256) g (constant S1024x256 .f32 0x00000000#32))
    (matmul dot_S1024x256_S256x256_S1024x256_1_0_0_1_n_n none (extractStridedSlice S1024x256 ![0, 256] (truncf .bf16 B bitsLt_bf16_f32) slices_S1024x1024_o0_256_S1024x256) g (constant S1024x256 .f32 0x00000000#32))
def quarter2 (A B : FVec Ideal S1024x1024 .f32) (g : FVec Ideal S256x256 .bf16) : FVec Ideal S1024x256 .f32 :=
  addf (matmul dot_S1024x256_S256x256_S1024x256_1_0_0_1_n_n none (extractStridedSlice S1024x256 ![0, 512] (truncf .bf16 (mulf A A) bitsLt_bf16_f32) slices_S1024x1024_o0_512_S1024x256) g (constant S1024x256 .f32 0x00000000#32))
    (matmul dot_S1024x256_S256x256_S1024x256_1_0_0_1_n_n none (extractStridedSlice S1024x256 ![0, 512] (truncf .bf16 B bitsLt_bf16_f32) slices_S1024x1024_o0_512_S1024x256) g (constant S1024x256 .f32 0x00000000#32))
def quarter3 (A B : FVec Ideal S1024x1024 .f32) (g : FVec Ideal S256x256 .bf16) : FVec Ideal S1024x256 .f32 :=
  addf (matmul dot_S1024x256_S256x256_S1024x256_1_0_0_1_n_n none (extractStridedSlice S1024x256 ![0, 768] (truncf .bf16 (mulf A A) bitsLt_bf16_f32) slices_S1024x1024_o0_768_S1024x256) g (constant S1024x256 .f32 0x00000000#32))
    (matmul dot_S1024x256_S256x256_S1024x256_1_0_0_1_n_n none (extractStridedSlice S1024x256 ![0, 768] (truncf .bf16 B bitsLt_bf16_f32) slices_S1024x1024_o0_768_S1024x256) g (constant S1024x256 .f32 0x00000000#32))

section Quarter
variable (A B : FVec Ideal S1024x1024 .f32) (g : FVec Ideal S256x256 .bf16) (r : Fin 1024) (k : Fin 256)
theorem quarter0_at : quarter0 A B g (ix2 r k) = ∑ e : Fin 256, A (ix2 r ⟨e.val, by omega⟩) * A (ix2 r ⟨e.val, by omega⟩) * g (ix2 e k)
    + ∑ e : Fin 256, B (ix2 r ⟨e.val, by omega⟩) * g (ix2 e k) := by
  pointwise [quarter0]
theorem quarter1_at : quarter1 A B g (ix2 r k) = ∑ e : Fin 256, A (ix2 r ⟨256 + e.val, by omega⟩) * A (ix2 r ⟨256 + e.val, by omega⟩) * g (ix2 e k)
    + ∑ e : Fin 256, B (ix2 r ⟨256 + e.val, by omega⟩) * g (ix2 e k) := by
  pointwise [quarter1]
theorem quarter2_at : quarter2 A B g (ix2 r k) = ∑ e : Fin 256, A (ix2 r ⟨512 + e.val, by omega⟩) * A (ix2 r ⟨512 + e.val, by omega⟩) * g (ix2 e k)
    + ∑ e : Fin 256, B (ix2 r ⟨512 + e.val, by omega⟩) * g (ix2 e k) := by
  pointwise [quarter2]
theorem quarter3_at : quarter3 A B g (ix2 r k) = ∑ e : Fin 256, A (ix2 r ⟨768 + e.val, by omega⟩) * A (ix2 r ⟨768 + e.val, by omega⟩) * g (ix2 e k)
    + ∑ e : Fin 256, B (ix2 r ⟨768 + e.val, by omega⟩) * g (ix2 e k) := by
  pointwise [quarter3]
end Quarter

/-- Four quarters side by side. -/
def beside (u0 u1 u2 u3 : FVec Ideal S1024x256 .f32) : FVec Ideal S1024x1024 .f32 :=
  concatenate S1024x1024 1 [⟨S1024x256, u0⟩, ⟨S1024x256, u1⟩, ⟨S1024x256, u2⟩, ⟨S1024x256, u3⟩] concatenates_S1024x256_S1024x256_S1024x256_S1024x256_S1024x1024_d1

section Beside
variable (u0 u1 u2 u3 : FVec Ideal S1024x256 .f32) (r : Fin 1024) (k : Fin 256)
theorem beside_0 : beside u0 u1 u2 u3 (ix2 r ⟨k.val, by omega⟩) = u0 (ix2 r k) := by
  pointwise [beside]
theorem beside_1 : beside u0 u1 u2 u3 (ix2 r ⟨256 + k.val, by omega⟩) = u1 (ix2 r k) := by
  pointwise [beside]
theorem beside_2 : beside u0 u1 u2 u3 (ix2 r ⟨512 + k.val, by omega⟩) = u2 (ix2 r k) := by
  pointwise [beside]
  rw [dif_neg (by omega), dif_neg (by omega), dif_pos (by omega)]
  exact congrArg (fun z => u2 (ix2 r z)) (Fin.ext (by dsimp only; omega))
theorem beside_3 : beside u0 u1 u2 u3 (ix2 r ⟨768 + k.val, by omega⟩) = u3 (ix2 r k) := by
  pointwise [beside]
  rw [dif_neg (by omega), dif_neg (by omega), dif_neg (by omega)]
  exact congrArg (fun z => u3 (ix2 r z)) (Fin.ext (by dsimp only; omega))
end Beside

/-- A tile normalized by the sums `M` of its squares, times a gain. -/
def scaled (A M : FVec Ideal S1024x1024 .f32) (G : Vec Ideal S1x1024 .f32) : FVec Ideal S1024x1024 .bf16 :=
  truncf .bf16 (mulf (mulf A (rsqrt (addf (mulf M (broadcast S1024x1024 (Scalar.ofBits .f32 0x3C800000#32))) (broadcast S1024x1024 (Scalar.ofBits .f32 0x358637BD#32)))))
    (broadcastTo S1024x1024 (shapeCast S1x1024 G shapeCasts_S1x1024_S1x1024) broadcasts_S1x1024_S1024x1024)) bitsLt_bf16_f32

theorem scaled_at (A M : FVec Ideal S1024x1024 .f32) (G : Vec Ideal S1x1024 .f32) (r n : Fin 1024) :
    scaled A M G (ix2 r n) = A (ix2 r n) * Ideal.rsqrt (M (ix2 r n) * Ideal.ofBits .f32 0x3C800000#32 + Ideal.ofBits .f32 0x358637BD#32) * G (ix2 0 n) := by
  pointwise [scaled]

/-- The sums of the squares of a tile's groups. -/
def sums (A : FVec Ideal S1024x1024 .f32) (g : Vec Ideal S256x256 .bf16) : FVec Ideal S1024x1024 .f32 :=
  beside (quarter0 A (rest A) (shapeCast S256x256 g shapeCasts_S256x256_S256x256)) (quarter1 A (rest A) (shapeCast S256x256 g shapeCasts_S256x256_S256x256))
    (quarter2 A (rest A) (shapeCast S256x256 g shapeCasts_S256x256_S256x256)) (quarter3 A (rest A) (shapeCast S256x256 g shapeCasts_S256x256_S256x256))

theorem pay3_eq (H : Vec Ideal S1024x2048 .bf16) (W : Vec Ideal S2048x1024 .bf16) (G : Vec Ideal S1x1024 .f32) (g : Vec Ideal S256x256 .bf16) :
    k0_pay3 H W G g = scaled (k0_pay2 H W) (sums (k0_pay2 H W) g) G := rfl

theorem pay4_eq (H : Vec Ideal S1024x2048 .bf16) (W : Vec Ideal S2048x1024 .bf16) (G : Vec Ideal S1x1024 .f32) (g : Vec Ideal S256x256 .bf16) :
    k0_pay4 H W G g = scaled (k0_pay2 H W) (sums (k0_pay2 H W) g) G := rfl

theorem same_at (g : Vec Ideal S256x256 .bf16) : shapeCast S256x256 g shapeCasts_S256x256_S256x256 = g := by
  funext y
  have e : y = ix2 (y 0) (y 1) := by pointwise
  exact (congrArg (fun z : S256x256.Idx => shapeCast S256x256 g shapeCasts_S256x256_S256x256 z = g z) e).mpr (by pointwise)

/-- A tile's group sum at column `q * 256 + k`. -/
theorem sums_at (A : FVec Ideal S1024x1024 .f32) (g : Vec Ideal S256x256 .bf16) (r : Fin 1024) (q : Fin 4) (k : Fin 256) :
    sums A g (ix2 r ⟨q.val * 256 + k.val, by omega⟩)
      = ∑ e : Fin 256, A (ix2 r ⟨q.val * 256 + e.val, by omega⟩) * A (ix2 r ⟨q.val * 256 + e.val, by omega⟩) * g (ix2 e k)
        + ∑ e : Fin 256, rest A (ix2 r ⟨q.val * 256 + e.val, by omega⟩) * g (ix2 e k) := by
  unfold sums
  rw [same_at]
  fin_cases q
  · have e0 : (⟨0 * 256 + k.val, by omega⟩ : Fin 1024) = ⟨k.val, by omega⟩ := Fin.ext (by dsimp only; omega)
    refine Eq.trans (congrArg (fun z : Fin 1024 => beside _ _ _ _ (ix2 r z)) e0) ?_
    refine (beside_0 _ _ _ _ r k).trans ((quarter0_at A (rest A) g r k).trans ?_)
    have h : ∀ e : Fin 256, (⟨e.val, by omega⟩ : Fin 1024) = ⟨0 * 256 + e.val, by omega⟩ := fun e => Fin.ext (by show e.val = 0 * 256 + e.val; omega)
    simp only [h]
  · refine (beside_1 _ _ _ _ r k).trans (quarter1_at A (rest A) g r k)
  · refine (beside_2 _ _ _ _ r k).trans (quarter2_at A (rest A) g r k)
  · refine (beside_3 _ _ _ _ r k).trans (quarter3_at A (rest A) g r k)

end Cert.Proof.ProjIdeal

end
-- ==== Proof.Softmax.lean ====
/-
  A softmax computed tile by tile, with the running maximum and the running sums rescaled on the way, equals the
  softmax computed at once.  Scores are extended reals below `⊤`, where `⊥` is a masked score; values are real.
-/
module

public import Idealize.ShloMosaic.Lib.Pipeline.ValueKit

@[expose] public section

noncomputable section

namespace Cert.Proof.Softmax

open Idealize.ShloMosaic

/-- The exponential of a score as a real number: a masked score weighs nothing. -/
def wt (s : EReal) : ℝ := (Ideal.exp s).toReal

theorem wt_bot : wt ⊥ = 0 := rfl

theorem wt_coe (r : ℝ) : wt (r : EReal) = Real.exp r := rfl

theorem wt_nonneg {s : EReal} : 0 ≤ wt s := by
  induction s with
  | bot => exact le_refl 0
  | coe r => exact (Real.exp_pos r).le
  | top => exact le_refl 0

theorem wt_pos {s : EReal} (h : s ≠ ⊤) (h' : s ≠ ⊥) : 0 < wt s := by
  induction s with
  | bot => exact absurd rfl h'
  | coe r => exact Real.exp_pos r
  | top => exact absurd rfl h

/-- The exponential of a score less a real maximum. -/
theorem exp_sub {s : EReal} (h : s ≠ ⊤) (μ : ℝ) :
    Ideal.exp (s - (μ : EReal)) = ((Real.exp (-μ) * wt s : ℝ) : EReal) := by
  induction s with
  | bot => rw [wt_bot, mul_zero, EReal.bot_sub]; rfl
  | coe r =>
    rw [wt_coe, ← EReal.coe_sub, ← Real.exp_add, show -μ + r = r - μ by ring]; rfl
  | top => exact absurd rfl h

/-- A sum of real numbers, summed as extended reals. -/
theorem coe_sum {ι : Type} (s : Finset ι) (f : ι → ℝ) : ∑ k ∈ s, (f k : EReal) = ((∑ k ∈ s, f k : ℝ) : EReal) := by
  classical
  induction s using Finset.induction_on with
  | empty => rfl
  | insert a s ha ih => rw [Finset.sum_insert ha, Finset.sum_insert ha, ih, EReal.coe_add]

/-- What the running maximum `m`, the running sum `l` and the running value sums `a` hold once the weights sum to `Z`
and the weighted values to `N`: nothing yet, or everything scaled by `exp (-m)`. -/
def Holds {ι : Type} (m l : EReal) (a : ι → EReal) (Z : ℝ) (N : ι → ℝ) : Prop :=
  (m = ⊥ ∧ l = 0 ∧ (∀ e, a e = 0) ∧ Z = 0 ∧ ∀ e, N e = 0) ∨
  ∃ μ : ℝ, m = μ ∧ l = ((Real.exp (-μ) * Z : ℝ) : EReal) ∧ ∀ e, a e = ((Real.exp (-μ) * N e : ℝ) : EReal)

theorem max_ne_top {n : ℕ} (S : Fin n → EReal) (hS : ∀ k, S k ≠ ⊤) : Finset.univ.fold max ⊥ S ≠ ⊤ := by
  have : Finset.univ.fold max ⊥ S < ⊤ := (Finset.fold_max_lt _).2 ⟨bot_lt_top, fun k _ => lt_top_iff_ne_top.2 (hS k)⟩
  exact this.ne

theorem max_ne_bot {n : ℕ} (S : Fin n → EReal) (k : Fin n) (hk : S k ≠ ⊥) : Finset.univ.fold max ⊥ S ≠ ⊥ := by
  have : ⊥ < Finset.univ.fold max ⊥ S :=
    (Finset.lt_fold_max _).2 (Or.inr ⟨k, Finset.mem_univ k, bot_lt_iff_ne_bot.2 hk⟩)
  exact this.ne'

/-- One tile of keys, of which at least one is not masked. -/
theorem Holds.step {ι : Type} {n : ℕ} {m l : EReal} {a : ι → EReal} {Z : ℝ} {N : ι → ℝ} (h : Holds m l a Z N)
    (S : Fin n → EReal) (v : ι → Fin n → ℝ) (hS : ∀ k, S k ≠ ⊤) (k₀ : Fin n) (hk₀ : S k₀ ≠ ⊥) {m' l' : EReal} {a' : ι → EReal}
    (hm : m' = max m (Finset.univ.fold max ⊥ S))
    (hl : l' = Ideal.exp (m - m') * l + ∑ k, Ideal.exp (S k - m'))
    (ha : ∀ e, a' e = Ideal.exp (m - m') * a e + ∑ k, (v e k : EReal) * Ideal.exp (S k - m')) :
    Holds m' l' a' (Z + ∑ k, wt (S k)) (fun e => N e + ∑ k, v e k * wt (S k)) ∧ m' ≠ ⊥ := by
  have hm₀ : m ≠ ⊤ := by
    rcases h with h | ⟨μ, h, -⟩
    · rw [h.1]; exact bot_ne_top
    · rw [h]; exact EReal.coe_ne_top μ
  have ht : m' ≠ ⊤ := by
    rw [hm]; rcases max_choice m (Finset.univ.fold max ⊥ S) with h | h <;> rw [h]
    · exact hm₀
    · exact max_ne_top S hS
  have hb : m' ≠ ⊥ := by
    rw [hm]; exact ((bot_lt_iff_ne_bot.2 (max_ne_bot S k₀ hk₀)).trans_le (le_max_right _ _)).ne'
  lift m' to ℝ using ⟨ht, hb⟩
  refine ⟨Or.inr ⟨m', rfl, ?_, fun e => ?_⟩, hb⟩
  · rw [hl]
    simp only [exp_sub hm₀, exp_sub (hS _), coe_sum]
    rcases h with ⟨-, h2, -, h4, -⟩ | ⟨μ, h1, h2, -⟩
    · rw [h2, h4, mul_zero, zero_add, zero_add, ← Finset.mul_sum]
    · rw [h1, h2, wt_coe, ← EReal.coe_mul, ← EReal.coe_add, ← Finset.mul_sum]
      congr 1
      have : Real.exp μ * Real.exp (-μ) = 1 := by rw [← Real.exp_add, add_neg_cancel, Real.exp_zero]
      linear_combination Real.exp (-m') * Z * this
  · rw [ha]
    simp only [exp_sub hm₀, exp_sub (hS _), ← EReal.coe_mul, coe_sum]
    have hs : ∑ k, v e k * (Real.exp (-m') * wt (S k)) = Real.exp (-m') * ∑ k, v e k * wt (S k) := by
      rw [Finset.mul_sum]; exact Finset.sum_congr rfl fun k _ => by ring
    rw [hs]
    rcases h with ⟨-, -, h3, -, h5⟩ | ⟨μ, h1, -, h3⟩
    · rw [h3, h5, mul_zero, zero_add, zero_add]
    · rw [h1, h3, wt_coe, ← EReal.coe_mul, ← EReal.coe_add]
      congr 1
      have : Real.exp μ * Real.exp (-μ) = 1 := by rw [← Real.exp_add, add_neg_cancel, Real.exp_zero]
      linear_combination Real.exp (-m') * N e * this

theorem div_coe {x y : ℝ} (hy : y ≠ 0) : Ideal.div (x : EReal) (y : EReal) = ((x / y : ℝ) : EReal) := by
  unfold Ideal.div
  rw [if_neg (by exact_mod_cast hy), ← EReal.coe_inv, ← EReal.coe_mul, div_eq_mul_inv]

/-- The value sums over the running sum: the softmax average. -/
theorem Holds.quot {ι : Type} {m l : EReal} {a : ι → EReal} {Z : ℝ} {N : ι → ℝ} (h : Holds m l a Z N) (hm : m ≠ ⊥)
    (hZ : 0 < Z) (e : ι) : a e * Ideal.div 1 l = ((N e / Z : ℝ) : EReal) := by
  rcases h with h | ⟨μ, -, h2, h3⟩
  · exact absurd h.1 hm
  · have hp := Real.exp_pos (-μ)
    rw [h2, h3, show (1 : EReal) = ((1 : ℝ) : EReal) from rfl, div_coe (by positivity), ← EReal.coe_mul]
    congr 1
    field_simp

/-- The softmax weight computed at once: the scores less their maximum, exponentiated, over their sum. -/
theorem weight {n : ℕ} (S : Fin n → EReal) (hS : ∀ k, S k ≠ ⊤) (k₀ : Fin n) (hk₀ : S k₀ ≠ ⊥) {M L : EReal}
    (hM : M = Finset.univ.fold max ⊥ S) (hL : L = ∑ k, Ideal.exp (S k - M)) (k : Fin n) :
    Ideal.div (Ideal.exp (S k - M)) L = ((wt (S k) / ∑ k, wt (S k) : ℝ) : EReal) := by
  have ht : M ≠ ⊤ := by rw [hM]; exact max_ne_top S hS
  have hb : M ≠ ⊥ := by rw [hM]; exact max_ne_bot S k₀ hk₀
  lift M to ℝ using ⟨ht, hb⟩
  have hp := Real.exp_pos (-M)
  have hZ : 0 < ∑ k, wt (S k) :=
    Finset.sum_pos' (fun k _ => wt_nonneg) ⟨k₀, Finset.mem_univ _, wt_pos (hS _) hk₀⟩
  simp only [hL, exp_sub (hS _), coe_sum, ← Finset.mul_sum]
  rw [div_coe (by positivity)]
  congr 1
  field_simp

end Cert.Proof.Softmax

end
-- ==== Proof.ProjMath.lean ====
/- The arithmetic of the input projection: on real inputs the product is real, and the tile's group sums are
the groups' sums of squares. -/
module

public import proofs.«01_k».proof.Proof.ProjPoint
public import proofs.«01_k».proof.Proof.Softmax

@[expose] public section

set_option maxRecDepth 16384

noncomputable section

namespace Cert.Proof.ProjRef

open Cert.Reference2Ideal Cert.Reference2Ideal.Gen
open Idealize.ShloMosaic Idealize.ShloMosaic.TcCoe
open Cert.Proof.Softmax

/-- The literal the variances are offset by is a positive real number. -/
theorem eps_real : ∃ r : ℝ, 0 < r ∧ Ideal.ofBits .f32 0x358637BD#32 = r := by
  refine ⟨_, ?_, (by simp [Ideal.ofBits, Ideal.ieee]; rfl)⟩
  positivity

theorem width_real : Ideal.ofBits .f32 0x45000000#32 = ((2048 : ℝ) : EReal) := by
  simp [Ideal.ofBits, Ideal.ieee]; norm_num; rw [← EReal.coe_mul]; norm_num

/-- The factor of a row of real numbers is real. -/
theorem scale_real (X : Fin 2048 → EReal) (h : ∀ d, ∃ r : ℝ, X d = r) : ∃ r : ℝ, scaleOf X = r := by
  choose x hx using h
  obtain ⟨ε, hε, he⟩ := eps_real
  have e : ∑ d, X d * X d = ((∑ d, x d * x d : ℝ) : EReal) := by
    rw [← coe_sum]; exact Finset.sum_congr rfl fun d _ => by rw [hx, ← EReal.coe_mul]
  have p : 0 ≤ ∑ d, x d * x d := Finset.sum_nonneg fun d _ => mul_self_nonneg (x d)
  have q : 0 < (∑ d, x d * x d) / 2048 + ε := by positivity
  unfold scaleOf
  rw [e, width_real, div_coe (by norm_num), he, ← EReal.coe_add, Ideal.rsqrt_coe, if_neg (not_lt.2 q.le), if_neg q.ne']
  exact ⟨_, rfl⟩

variable (A0 : FVec Ideal S4x8192x2048 .f32) (A1 : FVec Ideal S1x2048 .f32) (A2 : FVec Ideal S1x2048x10240 .f32)

/-- On real inputs the product is real. -/
theorem acc_real (h0 : ∀ i s d, ∃ r : ℝ, A0 (ix3 i s d) = r) (h1 : ∀ d, ∃ r : ℝ, A1 (ix2 0 d) = r)
    (h2 : ∀ d n, ∃ r : ℝ, A2 (ix3 0 d n) = r) (i : Fin 4) (s : Fin 8192) (n : Fin 10240) : ∃ r : ℝ, acc A0 A1 A2 (ix3 i s n) = r := by
  obtain ⟨κ, hκ⟩ := scale_real (fun d => A0 (ix3 i s d)) (h0 i s)
  choose a ha using h0 i s
  choose b hb using h1
  choose w hw using fun d => h2 d n
  refine ⟨∑ d, a d * κ * b d * w d, ?_⟩
  rw [acc_at, ← coe_sum]
  refine Finset.sum_congr rfl fun d _ => ?_
  rw [hid_at, hκ, ha, hb, hw, ← EReal.coe_mul, ← EReal.coe_mul, ← EReal.coe_mul]

end Cert.Proof.ProjRef

namespace Cert.Proof.ProjIdeal

open Cert.Kernel2Ideal Cert.Kernel2Ideal.Gen
open Idealize.ShloMosaic Idealize.ShloMosaic.TcCoe

/-- A 0/1 row of the groups picks out the group of column `k`. -/
theorem group_sum (f : Fin 256 → EReal) (k : Fin 256) :
    ∑ e : Fin 256, f e * (if e.val / 64 = k.val / 64 then 1 else 0) = ∑ j : Fin 64, f ⟨64 * (k.val / 64) + j.val, by omega⟩ := by
  simp only [mul_ite, mul_one, mul_zero]
  rw [← Finset.sum_filter]
  refine Finset.sum_nbij' (fun e => ⟨e.val % 64, by omega⟩) (fun j => ⟨64 * (k.val / 64) + j.val, by omega⟩) ?_ ?_ ?_ ?_ ?_
  · exact fun e _ => Finset.mem_univ _
  · intro j _
    rw [Finset.mem_filter]
    exact ⟨Finset.mem_univ _, by dsimp only; omega⟩
  · intro e he
    have := (Finset.mem_filter.1 he).2
    exact Fin.ext (by dsimp only; omega)
  · intro j _
    exact Fin.ext (by dsimp only; omega)
  · intro e he
    have := (Finset.mem_filter.1 he).2
    exact congrArg f (Fin.ext (by dsimp only; omega))

/-- The mean over 64 as a product with 1/64. -/
theorem mean (x : EReal) : x * Ideal.ofBits .f32 0x3C800000#32 = Ideal.div x (Ideal.ofBits .f32 0x42800000#32) := by
  have e1 : Ideal.ofBits .f32 0x3C800000#32 = ((1 / 64 : ℝ) : EReal) := by simp [Ideal.ofBits, Ideal.ieee]; norm_num; rw [← EReal.coe_mul]; norm_num
  have e2 : Ideal.ofBits .f32 0x42800000#32 = ((64 : ℝ) : EReal) := by simp [Ideal.ofBits, Ideal.ieee]; norm_num; rw [← EReal.coe_mul]; norm_num
  rw [e1, e2]
  unfold Ideal.div
  rw [if_neg (by exact_mod_cast (by norm_num : (64 : ℝ) ≠ 0)), ← EReal.coe_inv, one_div]

/-- A tile of real numbers scaled by its group sums is the reference's group normalization. -/
theorem scaled_group (A : FVec Ideal S1024x1024 .f32) (g : Vec Ideal S256x256 .bf16) (G : Vec Ideal S1x1024 .f32)
    (hg : ∀ e k : Fin 256, g (ix2 e k) = if e.val / 64 = k.val / 64 then 1 else 0) (r : Fin 1024)
    (hA : ∀ n, ∃ a : ℝ, A (ix2 r n) = a) (h : Fin 8) (b : Fin 2) (e : Fin 64) :
    scaled A (sums A g) G (ix2 r ⟨h.val * 128 + b.val * 64 + e.val, by omega⟩)
      = A (ix2 r ⟨h.val * 128 + b.val * 64 + e.val, by omega⟩)
        * ProjRef.groupOf (fun j => A (ix2 r ⟨h.val * 128 + b.val * 64 + j.val, by omega⟩))
        * G (ix2 0 ⟨h.val * 128 + b.val * 64 + e.val, by omega⟩) := by
  have hrest : ∀ n, rest A (ix2 r n) = 0 := by
    intro n
    obtain ⟨a, ha⟩ := hA n
    rw [rest_at, ha, ← EReal.coe_mul, ← EReal.coe_sub, sub_self, EReal.coe_zero]
  have hc : (⟨h.val * 128 + b.val * 64 + e.val, by omega⟩ : Fin 1024)
      = ⟨(⟨h.val / 2, by omega⟩ : Fin 4).val * 256 + (⟨h.val % 2 * 128 + b.val * 64 + e.val, by omega⟩ : Fin 256).val, by dsimp only; omega⟩ :=
    Fin.ext (by dsimp only; omega)
  have hs : sums A g (ix2 r ⟨h.val * 128 + b.val * 64 + e.val, by omega⟩)
      = ∑ j : Fin 64, A (ix2 r ⟨h.val * 128 + b.val * 64 + j.val, by omega⟩) * A (ix2 r ⟨h.val * 128 + b.val * 64 + j.val, by omega⟩) := by
    refine (congrArg (fun z : Fin 1024 => sums A g (ix2 r z)) hc).trans ((sums_at A g r _ _).trans ?_)
    simp only [hrest, zero_mul, Finset.sum_const_zero, add_zero, hg]
    refine (group_sum (fun x : Fin 256 => A (ix2 r ⟨h.val / 2 * 256 + x.val, by omega⟩) * A (ix2 r ⟨h.val / 2 * 256 + x.val, by omega⟩))
      ⟨h.val % 2 * 128 + b.val * 64 + e.val, by omega⟩).trans ?_
    refine Finset.sum_congr rfl fun j _ => ?_
    exact congrArg (fun z : Fin 1024 => A (ix2 r z) * A (ix2 r z)) (Fin.ext (by dsimp only; omega))
  rw [scaled_at, hs, mean]
  rfl

end Cert.Proof.ProjIdeal

end
-- ==== Proof.Finite.lean ====
/- What the preconditions say: an entry whose absolute value is below infinity is a real number. -/
module

public import Idealize.ShloMosaic.Lib.Pipeline.ValueKit

@[expose] public section

noncomputable section

namespace Cert.Proof.Finite

open Idealize.ShloMosaic

theorem bits_top : Ideal.ofBits .f32 0x7F800000#32 = ⊤ := by simp [Ideal.ofBits, Ideal.ieee]

theorem real_of_lt {x : EReal} (h : Ideal.cmp .olt (max x (-x)) (Ideal.ofBits .f32 0x7F800000#32) = 1#1) : ∃ r : ℝ, x = r := by
  rw [bits_top] at h
  induction x with
  | bot => simp [Ideal.cmp] at h
  | coe r => exact ⟨r, rfl⟩
  | top => simp [Ideal.cmp] at h

/-- Every entry of an array below infinity in absolute value is a real number. -/
theorem real_at {s z : Shape} (x : FVec Ideal s .f32) (dims : Fin z.rank → Fin s.rank) (hb : z.BroadcastsInDim s dims)
    (h : cmpf .olt (Host.absf x) (broadcastInDim s dims hb (constant (F := Ideal) z .f32 0x7F800000#32)) = fun _ => 1#1) (i : s.Idx) :
    ∃ r : ℝ, x i = r :=
  real_of_lt (congrFun h i)

end Cert.Proof.Finite

end
-- ==== Proof.ProjValue.lean ====
/- The value of the input projection: on finite inputs its two result arrays are the reference's terms. -/
module

public import proofs.«01_k».proof.Proof.ProjBlocks
public import proofs.«01_k».proof.Proof.ProjMath
public import proofs.«01_k».proof.Proof.Finite

@[expose] public section

set_option maxRecDepth 16384

noncomputable section

namespace Cert.Proof.ProjIdeal

open Cert.Kernel2Ideal Cert.Kernel2Ideal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-! The argument arrays. -/

abbrev A0 : FVec Ideal S4x8192x2048 .f32 := m ((c : Thread nD τ).loc main_arg0)
abbrev A1 : FVec Ideal S1x2048 .f32 := m ((c : Thread nD τ).loc main_arg1)
abbrev A2 : FVec Ideal S1x2048x10240 .f32 := m ((c : Thread nD τ).loc main_arg2)
abbrev A3 : FVec Ideal S1x64 .f32 := m ((c : Thread nD τ).loc main_arg3)
abbrev A4 : FVec Ideal S1x64 .f32 := m ((c : Thread nD τ).loc main_arg4)

/-- The finite inputs: x, the norm's weight and the projection's weights. -/
structure FiniteIn : Prop where
  f0 : ∀ i s d, ∃ r : ℝ, A0 m c (ix3 i s d) = r
  f1 : ∀ d, ∃ r : ℝ, A1 m c (ix2 0 d) = r
  f2 : ∀ d n, ∃ r : ℝ, A2 m c (ix3 0 d n) = r

/-- The product of the normalized rows with the weights. -/
def prod : FVec Ideal Cert.Reference2Ideal.S4x8192x10240 .f32 := ProjRef.acc (A0 m c) (A1 m c) (A2 m c)

/-- The reference's first result. -/
def rowsOf : FVec Ideal S32768x10240 .bf16 := ProjRef.rows (prod m c) (A3 m c) (A4 m c)

/-- The reference's second result. -/
def valuesOf : FVec Ideal S4x1024x8192 .bf16 := ProjRef.vals (prod m c)

theorem row_inRow (t : Fin cfg0.N) (k : Fin 10) (r : Fin 1024) : row (inRow t.val k) r = row t r := by
  have := lt_320 t
  refine Fin.ext ?_
  show 1024 * ((10 * (t.val / 10) + k.val) % 320 / 10) + r.val = 1024 * (t.val / 10) + r.val
  omega

theorem hRow_at (t : Fin cfg0.N) (r : Fin 1024) (d : Fin 2048) :
    hRow m c t.val (ix2 r d) = ProjRef.hid (A0 m c) (A1 m c) (ix3 ⟨(row t r).val / 8192, by omega⟩ ⟨(row t r).val % 8192, by omega⟩ d) := by
  have hb : ∀ d, iblk m c 0 (inRow t.val 0) (ix2 r d) = A0 m c (ix3 ⟨(row t r).val / 8192, by omega⟩ ⟨(row t r).val % 8192, by omega⟩ d) :=
    fun d => (blk0 m c (inRow t.val 0) r d).trans
      (congrArg (fun R : Fin 32768 => A0 m c (ix3 ⟨R.val / 8192, by omega⟩ ⟨R.val % 8192, by omega⟩ d)) (row_inRow t 0 r))
  unfold hRow
  rw [pay1_at, ProjRef.hid_at, blk1]
  simp only [hb]

/-- A tile of the product. -/
theorem tile_at (t t2 : Fin cfg0.N) (r n : Fin 1024) :
    k0_pay2 (hRow m c t.val) (iblk m c 2 t2) (ix2 r n) = ProjRef.prow (prod m c) (row t r) (col t2 n) := by
  unfold prod
  rw [pay2_at, ProjRef.prow, ProjRef.acc_at]
  exact Finset.sum_congr rfl fun d _ => by rw [hRow_at, blk2]

theorem tile_real (hf : FiniteIn m c) (t : Fin cfg0.N) (r n : Fin 1024) :
    ∃ a : ℝ, k0_pay2 (hRow m c t.val) (iblk m c 2 t) (ix2 r n) = a := by
  rw [tile_at]
  exact ProjRef.acc_real _ _ _ hf.f0 hf.f1 hf.f2 _ _ _

theorem split_col (n : Fin 1024) : ∃ (h : Fin 8) (b : Fin 2) (e : Fin 64), n = ⟨h.val * 128 + b.val * 64 + e.val, by omega⟩ :=
  ⟨⟨n.val / 128, by omega⟩, ⟨n.val / 64 % 2, by omega⟩, ⟨n.val % 64, by omega⟩, Fin.ext (by dsimp only; omega)⟩

theorem point_queries (hf : FiniteIn m c) (t : Fin cfg0.N) (r n : Fin 1024) (h0 : t.val % 10 = 0) :
    k0_pay3 (hRow m c t.val) (iblk m c 2 t) (iblk m c 3 t) (iblk m c 5 t) (ix2 r n) = rowsOf m c (ix2 (row t r) (col t n)) := by
  obtain ⟨h, b, e, rfl⟩ := split_col n
  have hcol : ∀ j : Fin 64, col t ⟨h.val * 128 + b.val * 64 + j.val, by omega⟩ = ⟨h.val * 128 + b.val * 64 + j.val, by omega⟩ :=
    fun j => Fin.ext (by dsimp only; omega)
  rw [pay3_eq, scaled_group _ _ _ (fun e k => (blk5 m c t e k).trans (gsum_at e k)) r (tile_real m c hf t r) h b e, blk3]
  simp only [tile_at, hcol]
  unfold rowsOf scaledGain
  rw [ProjRef.rows_queries]
  exact (mul_assoc _ _ _).symm

theorem point_keys (hf : FiniteIn m c) (t : Fin cfg0.N) (r n : Fin 1024) (h0 : t.val % 10 = 1) :
    k0_pay4 (hRow m c t.val) (iblk m c 2 t) (iblk m c 4 t) (iblk m c 5 t) (ix2 r n) = rowsOf m c (ix2 (row t r) (col t n)) := by
  obtain ⟨h, b, e, rfl⟩ := split_col n
  have hcol : ∀ j : Fin 64, col t ⟨h.val * 128 + b.val * 64 + j.val, by omega⟩ = ⟨1024 + (h.val * 128 + b.val * 64 + j.val), by omega⟩ :=
    fun j => Fin.ext (by dsimp only; omega)
  rw [pay4_eq, scaled_group _ _ _ (fun e k => (blk5 m c t e k).trans (gsum_at e k)) r (tile_real m c hf t r) h b e, blk4]
  simp only [tile_at, hcol]
  unfold rowsOf
  rw [ProjRef.rows_keys]

theorem point_rest (t : Fin cfg0.N) (r n : Fin 1024) :
    (t.val % 10 = 2 → k0_pay5 (hRow m c t.val) (iblk m c 2 t) (ix2 r n) = rowsOf m c (ix2 (row t r) (col t n)))
    ∧ (t.val % 10 = 4 → k0_pay7 (hRow m c t.val) (iblk m c 2 t) (ix2 r n) = rowsOf m c (ix2 (row t r) (col t n)))
    ∧ (t.val % 10 = 3 ∨ t.val % 10 = 5 → k0_pay8 (hRow m c t.val) (iblk m c 2 t) (ix2 r n) = rowsOf m c (ix2 (row t r) (col t n)))
    ∧ (6 ≤ t.val % 10 → k0_pay9 (hRow m c t.val) (iblk m c 2 t) (ix2 r n) = rowsOf m c (ix2 (row t r) (col t n))) := by
  unfold rowsOf
  refine ⟨fun h => ?_, fun h => ?_, fun h => ?_, fun h => ?_⟩
  · have hcol : col t n = ⟨2048 + n.val, by omega⟩ := Fin.ext (by dsimp only; omega)
    rw [pay5_at, tile_at, hcol, ProjRef.rows_vals]
  · have hcol : col t n = ⟨4096 + n.val, by omega⟩ := Fin.ext (by dsimp only; omega)
    rw [pay7_at, tile_at, hcol, ProjRef.rows_state]
  · rw [pay8_at, tile_at]
    rcases h with h | h
    · have hcol : col t n = ⟨3072 + n.val, by omega⟩ := Fin.ext (by dsimp only; omega)
      rw [hcol, ProjRef.rows_silu]
    · have hcol : col t n = ⟨5120 + n.val, by omega⟩ := Fin.ext (by dsimp only; omega)
      rw [hcol, ProjRef.rows_silu']
  · have hcol : col t n = ⟨6144 + (⟨1024 * (t.val % 10 - 6) + n.val, by omega⟩ : Fin 4096).val, by dsimp only; omega⟩ := Fin.ext (by dsimp only; omega)
    rw [pay9_at, tile_at, hcol, ProjRef.rows_gate]

theorem point_6 (hf : FiniteIn m c) (t : Fin cfg0.N) (r n : Fin 1024) :
    projAt m c t (ix2 r n) = rowsOf m c (((cfg0.win 6).blk t).view.emb (ix2 r n)) := by
  refine Eq.trans ?_ (emb_6 t r n (rowsOf m c)).symm
  obtain ⟨h2, h4, h35, h6⟩ := point_rest m c t r n
  unfold projAt
  split_ifs with a0 a1 a2 a4 a35
  · exact point_queries m c hf t r n a0
  · exact point_keys m c hf t r n a1
  · exact h2 a2
  · exact h4 a4
  · exact h35 a35
  · exact h6 (by omega)

theorem point_7 (t : Fin cfg0.N) (e s : Fin 1024) :
    valsOf m c t.val (ix3 0 e s) = valuesOf m c (((cfg0.win 7).blk t).view.emb (ix3 0 e s)) := by
  have hN := lt_320 t
  refine Eq.trans ?_ (emb_7 t e s (valuesOf m c)).symm
  have hcol : col (inRow t.val 2) e = ⟨2048 + e.val, by omega⟩ := by
    refine Fin.ext ?_
    show 1024 * ((10 * (t.val / 10) + 2) % 320 % 10) + e.val = 2048 + e.val
    omega
  unfold valsOf valuesOf
  rw [pay6_at, tile_at, hcol, ProjRef.vals_at, ProjRef.prow]
  have h1 : (⟨(row t s).val / 8192, by omega⟩ : Fin 4) = ⟨t.val / 80, by omega⟩ := Fin.ext (by dsimp only; omega)
  have h2 : (⟨(row t s).val % 8192, by omega⟩ : Fin 8192) = ⟨1024 * (t.val / 10 % 8) + s.val, by omega⟩ := Fin.ext (by dsimp only; omega)
  rw [h1, h2]

theorem point_6' (hf : FiniteIn m c) (t : Fin cfg0.N) (y : S1024x1024.Idx) :
    projAt m c t y = rowsOf m c (((cfg0.win 6).blk t).view.emb y) := by
  have e : y = ix2 (y 0) (y 1) := by pointwise
  exact (congrArg (fun z : S1024x1024.Idx => projAt m c t z = rowsOf m c (((cfg0.win 6).blk t).view.emb z)) e).mpr (point_6 m c hf t (y 0) (y 1))

theorem point_7' (t : Fin cfg0.N) (y : S1x1024x1024.Idx) :
    valsOf m c t.val y = valuesOf m c (((cfg0.win 7).blk t).view.emb y) := by
  have e : y = ix3 0 (y 1) (y 2) := by
    have h0 : (y 0).val < 1 := (y 0).isLt
    funext a; fin_cases a
    · exact Fin.ext (by show (y 0).val = 0; omega)
    · rfl
    · rfl
  exact (congrArg (fun z : S1x1024x1024.Idx => valsOf m c t.val z = valuesOf m c (((cfg0.win 7).blk t).view.emb z)) e).mpr (point_7 m c t (y 1) (y 2))

/-- The first result array after the run is the reference's term. -/
theorem final_6 (hf : FiniteIn m c) : (dats m 0 c).arrAt 6 (cfgs 0).N = rowsOf m c := by
  refine (dats m 0 c).arrAt_eq_of_covers 6 _ (by decide +kernel) fun t _ y => ?_
  blk_simp
  rw [after_6]; frame_out
  exact point_6' m c hf t y

/-- The second result array after the run is the reference's term. -/
theorem final_7 : (dats m 0 c).arrAt 7 (cfgs 0).N = valuesOf m c := by
  refine (dats m 0 c).arrAt_eq_of_covers 7 _ (by decide +kernel) fun t _ y => ?_
  blk_simp
  rw [after_7]; frame_out
  exact point_7' m c t y

/-- The run from finite inputs: both results are the reference's terms, the arguments end unchanged. -/
theorem run_value (ρ : Dev nD → PrngReg) (hf : ∀ c, FiniteIn m c) :
    θ_run defs (onTc (τ := τ) (main (F := Ideal))) ⟨m, fun _ => 0, ρ⟩ (fun r => ∀ c : Dev nD,
      r.2.mem ((c.tc : Thread nD τ).loc main_v23_0) = rowsOf m c
      ∧ r.2.mem ((c.tc : Thread nD τ).loc main_v23_1) = valuesOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 6).trans (final_6 m c (hf c)), ((h c).1 7).trans (final_7 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

end Cert.Proof.ProjIdeal

end
-- ==== Proof.AttnBodyIdeal.lean ====
/-
  The body of the attention call, run once: what the two nested counted loops leave in the scratch buffers and in the
  output block, as plain functions of the blocks the body reads.  The inner loop walks over the key tiles before the
  diagonal one and keeps the running maximum, the running sum and the running weighted values of the online softmax;
  the outer loop walks over the query tiles and writes one tile of the output per trip.
-/
module

public import proofs.«01_k».proof.Proof.Gen.KernelIdeal.Frame
public import proofs.«01_k».proof.Proof.Gen.KernelIdeal.Skeleton
public import Idealize.ShloMosaic.Lib.Pipeline.ValueKit
public import Idealize.ShloMosaic.Lib.WholeRead
public import Idealize.ShloMosaic.Lib.LoopRemainder
public import Idealize.ShloMosaic.Lib.VecWindow
public import Idealize.ShloMosaic.Lib.WritesUnit

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The values -/

/-- Key tile `t2` of a key block. -/
def keyTile (t1 : Fin k0_t1_loop.trips) (X5 : Vec F S1x8192x128 .bf16) (t2 : Fin (k0_t2_loop t1).trips) : Vec F S1x256x128 .bf16 :=
  View.ld X5 (Rect.unit (s := S1x8192x128) (k0_off2 t1 t2) S1x256x128.size (k0_off2_inb t1 t2))

/-- Value tile `t2` of a block of transposed values. -/
def valTile (t1 : Fin k0_t1_loop.trips) (X6 : Vec F S1x128x8192 .bf16) (t2 : Fin (k0_t2_loop t1).trips) : Vec F S1x128x256 .bf16 :=
  View.ld X6 (Rect.unit (s := S1x128x8192) (k0_off3 t1 t2) S1x128x256.size (k0_off3_inb t1 t2))

/-- Row tile `t1` of a block of rows. -/
def rowTile (t1 : Fin k0_t1_loop.trips) (X : Vec F S1x8192x128 .bf16) : Vec F S1x256x128 .bf16 :=
  View.ld X (Rect.unit (s := S1x8192x128) (k0_off1 t1) S1x256x128.size (k0_off1_inb t1))

/-- The value tile under row tile `t1`. -/
def diagVal (t1 : Fin k0_t1_loop.trips) (X6 : Vec F S1x128x8192 .bf16) : Vec F S1x128x256 .bf16 :=
  View.ld X6 (Rect.unit (s := S1x128x8192) (k0_off6 t1) S1x128x256.size (k0_off6_inb t1))

/-- The two query maps of tile `t1` side by side, each transposed and zero outside its own half of the features. -/
def queryPair (t1 : Fin k0_t1_loop.trips) (X4 : Vec F S1x8192x128 .bf16) : Vec F S128x512 .bf16 := fun x =>
  if h : (x 1).val < 256 then k0_pay19 (rowTile t1 X4) (fun a => match a with | 0 => x 0 | 1 => ⟨(x 1).val, h⟩)
  else k0_pay20 (rowTile t1 X4) (fun a => match a with | 0 => x 0 | 1 => ⟨(x 1).val - 256, by have := (x 1).isLt; have h2 : (S128x512.size 1) = 512 := rfl; show _ < 256; omega⟩)

/-- The running maximum, sum and weighted values. -/
abbrev St (F : FTy → Type) : Type := Vec F S1x512 .f32 × Vec F S1x512 .f32 × Vec F S128x512 .f32

/-- One trip of the inner loop. -/
def trip (t1 : Fin k0_t1_loop.trips) (Q : Vec F S128x512 .bf16) (X5 : Vec F S1x8192x128 .bf16) (X6 : Vec F S1x128x8192 .bf16)
    (t2 : Fin (k0_t2_loop t1).trips) (s : St F) : St F :=
  (k0_pay8 (keyTile t1 X5 t2) Q s.1, k0_pay7 (keyTile t1 X5 t2) Q s.1 s.2.1,
    k0_pay24 (k0_pay9 (keyTile t1 X5 t2) Q s.1 (valTile t1 X6 t2) s.2.2))

/-- What the inner loop holds before trip `k`. -/
def st (t1 : Fin k0_t1_loop.trips) (Q : Vec F S128x512 .bf16) (X5 : Vec F S1x8192x128 .bf16) (X6 : Vec F S1x128x8192 .bf16) : ℕ → St F
  | 0 => (k0_pay21, k0_pay22, k0_pay23)
  | k + 1 => if h : k < (k0_t2_loop t1).trips then trip t1 Q X5 X6 ⟨k, h⟩ (st t1 Q X5 X6 k) else st t1 Q X5 X6 k

theorem st_succ (t1 : Fin k0_t1_loop.trips) (Q : Vec F S128x512 .bf16) (X5 : Vec F S1x8192x128 .bf16) (X6 : Vec F S1x128x8192 .bf16)
    (k : Fin (k0_t2_loop t1).trips) : st t1 Q X5 X6 (k.val + 1) = trip t1 Q X5 X6 k (st t1 Q X5 X6 k.val) := by
  rw [st]; exact dif_pos k.isLt

/-- The output tile from the state the inner loop leaves: the masked diagonal tile, then the normalization. -/
def closeTile (t1 : Fin k0_t1_loop.trips) (X2 : Vec F S4x64 .f32) (X3 : Vec F S1x128 .f32) (Q : Vec F S128x512 .bf16)
    (X5 : Vec F S1x8192x128 .bf16) (X6 : Vec F S1x128x8192 .bf16) (X7 : Vec F S1x8192x128 .bf16) (s : St F) : Vec F S1x256x128 .bf16 :=
  k0_pay2 (k0_pay34 (k0_pay1 X2)
      (k0_pay33 (k0_pay28 (rowTile t1 X5) Q s.1) (k0_pay29 (rowTile t1 X5) Q s.1) (diagVal t1 X6) s.2.2)
      (k0_pay31 (k0_pay30 (rowTile t1 X5) Q s.1 s.2.1))) X3 (rowTile t1 X7)

/-- Tile `t1` of the output. -/
def outTile (X2 : Vec F S4x64 .f32) (X3 : Vec F S1x128 .f32) (X4 X5 : Vec F S1x8192x128 .bf16) (X6 : Vec F S1x128x8192 .bf16)
    (X7 : Vec F S1x8192x128 .bf16) (t1 : Fin k0_t1_loop.trips) : Vec F S1x256x128 .bf16 :=
  closeTile t1 X2 X3 (queryPair t1 X4) X5 X6 X7 (st t1 (queryPair t1 X4) X5 X6 (k0_t2_loop t1).trips)

theorem t1_trips : k0_t1_loop.trips = 32 := by decide +kernel

/-- The place of a row inside its tile. -/
def inTile (x : S1x8192x128.Idx) : S1x256x128.Idx := fun a => match a with
  | 0 => x 0
  | 1 => ⟨(x 1).val % 256, Nat.mod_lt _ (by decide)⟩
  | 2 => x 2

/-- The output block, entry by entry. -/
def outBlock (X2 : Vec F S4x64 .f32) (X3 : Vec F S1x128 .f32) (X4 X5 : Vec F S1x8192x128 .bf16) (X6 : Vec F S1x128x8192 .bf16)
    (X7 : Vec F S1x8192x128 .bf16) : Vec F S1x8192x128 .bf16 := fun x =>
  outTile X2 X3 X4 X5 X6 X7 ⟨(x 1).val / 256, by have h : (x 1).val < 8192 := (x 1).isLt; rw [t1_trips]; omega⟩
    (inTile x)

/-! ## The inner loop -/

section Run

variable (c : Dev nD) (i : grid0.Coords) (arg2 : Memref sig .tc .vmem S4x64 .f32) (harg2 : arg2.IsWhole) (arg3 : Memref sig .tc .vmem S1x128 .f32) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x128x8192 .bf16) (harg6 : arg6.IsWhole) (arg7 : Memref sig .tc .vmem S1x8192x128 .bf16) (harg7 : arg7.IsWhole) (arg8 : Memref sig .tc .vmem S1x8192x128 .bf16) (harg8 : arg8.IsWhole) (arg9 : Memref sig .tc .vmem S128x512 .bf16) (harg9 : arg9.IsWhole) (arg10 : Memref sig .tc .vmem S1x512 .f32) (harg10 : arg10.IsWhole) (arg11 : Memref sig .tc .vmem S1x512 .f32) (harg11 : arg11.IsWhole) (arg12 : Memref sig .tc .vmem S128x512 .f32) (harg12 : arg12.IsWhole)

/-- What one inner trip reads and writes. -/
def innerInv (t1 : Fin k0_t1_loop.trips) (Q : Vec F S128x512 .bf16) (X5 : Vec F S1x8192x128 .bf16) (X6 : Vec F S1x128x8192 .bf16)
    (k : ℕ) : sProp 𝕄 :=
  iprop(owns (c : Thread nD τ) arg5 fullShare X5 ∗ owns (c : Thread nD τ) arg6 fullShare X6 ∗ owns (c : Thread nD τ) arg9 fullShare Q
    ∗ owns (c : Thread nD τ) arg10 fullShare (st t1 Q X5 X6 k).1 ∗ owns (c : Thread nD τ) arg11 fullShare (st t1 Q X5 X6 k).2.1
    ∗ owns (c : Thread nD τ) arg12 fullShare (st t1 Q X5 X6 k).2.2)

set_option maxHeartbeats 2000000 in
theorem inner_step (t1 : Fin k0_t1_loop.trips) (w : BitVec 32) (Q : Vec F S128x512 .bf16) (X5 : Vec F S1x8192x128 .bf16)
    (X6 : Vec F S1x128x8192 .bf16) (k : Fin (k0_t2_loop t1).trips) (E : Set ℕ) :
    innerInv c arg5 arg6 arg9 arg10 arg11 arg12 t1 Q X5 X6 k.val
      ⊢ wp frame (wpE (defs₀ (F := F)) Variants.none (c : Thread nD τ) none) E (k0_t2_body (F := F) i arg2 harg2 arg3 harg3 arg4 harg4 arg5 harg5 arg6 harg6 arg7 harg7 arg8 harg8 arg9 harg9 arg10 harg10 arg11 harg11 arg12 harg12 t1 w k ⟨⟩)
          (fun _ => innerInv c arg5 arg6 arg9 arg10 arg11 arg12 t1 Q X5 X6 (k.val + 1)) := by
  unfold innerInv
  rw [st_succ]
  generalize st t1 Q X5 X6 k.val = s
  obtain ⟨m, l, a⟩ := s
  unfold k0_t2_body
  unfold owns
  iintro ⟨⟨%f5, %h5, H5⟩, ⟨%f6, %h6, H6⟩, ⟨%f9, %h9, H9⟩, ⟨%f10, %h10, H10⟩, ⟨%f11, %h11, H11⟩, ⟨%f12, %h12, H12⟩⟩
  obtain rfl := harg5.eq_unread h5; obtain rfl := harg6.eq_unread h6; obtain rfl := harg9.eq_unread h9
  obtain rfl := harg10.eq_unread h10; obtain rfl := harg11.eq_unread h11; obtain rfl := harg12.eq_unread h12
  sl_exec
  sl_step
  isplitl [H5]; · iexists _; isplitr; swap; · iexact H5
                  ipureintro; exact h5
  isplitl [H6]; · iexists _; isplitr; swap; · iexact H6
                  ipureintro; exact h6
  isplitl [H9]; · iexists _; isplitr; swap; · iexact H9
                  ipureintro; exact h9
  isplitl [H10]
  · iexists _; isplitr; swap; · iexact H10
    ipureintro
    frame_out
    exact (View.read_writes_full arg10.view _ _ _ _).trans rfl
  isplitl [H11]
  · iexists _; isplitr; swap; · iexact H11
    ipureintro
    frame_out
    exact (View.read_writes_full arg11.view _ _ _ _).trans rfl
  iexists _; isplitr; swap; · iexact H12
  ipureintro
  frame_out
  exact (View.read_writes_full arg12.view _ _ _ _).trans rfl

/-! ## One trip of the outer loop -/

/-- What the parts of an outer trip read and write besides the output. -/
def outerInv (t1 : Fin k0_t1_loop.trips) (X4 X5 : Vec F S1x8192x128 .bf16) (X6 : Vec F S1x128x8192 .bf16) (s : St F) : sProp 𝕄 :=
  iprop(owns (c : Thread nD τ) arg4 fullShare X4 ∗ owns (c : Thread nD τ) arg5 fullShare X5 ∗ owns (c : Thread nD τ) arg6 fullShare X6
    ∗ owns (c : Thread nD τ) arg9 fullShare (queryPair t1 X4)
    ∗ owns (c : Thread nD τ) arg10 fullShare s.1 ∗ owns (c : Thread nD τ) arg11 fullShare s.2.1
    ∗ owns (c : Thread nD τ) arg12 fullShare s.2.2)

set_option maxHeartbeats 2000000 in
theorem part3_spec (t1 : Fin k0_t1_loop.trips) (X4 : Vec F S1x8192x128 .bf16) (d9 : Vec F S128x512 .bf16)
    (d10 d11 : Vec F S1x512 .f32) (d12 : Vec F S128x512 .f32) (E : Set ℕ) :
    iprop(owns (c : Thread nD τ) arg4 fullShare X4 ∗ owns (c : Thread nD τ) arg9 fullShare d9 ∗ owns (c : Thread nD τ) arg10 fullShare d10
      ∗ owns (c : Thread nD τ) arg11 fullShare d11 ∗ owns (c : Thread nD τ) arg12 fullShare d12 : sProp 𝕄)
      ⊢ wp frame (wpE (defs₀ (F := F)) Variants.none (c : Thread nD τ) none) E (k0_part3 (F := F) i arg2 harg2 arg3 harg3 arg4 harg4 arg5 harg5 arg6 harg6 arg7 harg7 arg8 harg8 arg9 harg9 arg10 harg10 arg11 harg11 arg12 harg12 0#32 1#32 t1)
          (fun _ => iprop(owns (c : Thread nD τ) arg4 fullShare X4 ∗ owns (c : Thread nD τ) arg9 fullShare (queryPair t1 X4)
            ∗ owns (c : Thread nD τ) arg10 fullShare (k0_pay21 (F := F)) ∗ owns (c : Thread nD τ) arg11 fullShare (k0_pay22 (F := F))
            ∗ owns (c : Thread nD τ) arg12 fullShare (k0_pay23 (F := F)))) := by
  simp only [k0_part3_eq_skeleton]
  unfold k0_part3_skel
  unfold owns
  iintro ⟨⟨%f4, %h4, H4⟩, ⟨%f9, %h9, H9⟩, ⟨%f10, %h10, H10⟩, ⟨%f11, %h11, H11⟩, ⟨%f12, %h12, H12⟩⟩
  obtain rfl := harg4.eq_unread h4; obtain rfl := harg9.eq_unread h9
  obtain rfl := harg10.eq_unread h10; obtain rfl := harg11.eq_unread h11; obtain rfl := harg12.eq_unread h12
  sl_exec
  sl_step
  isplitl [H4]; · iexists _; isplitr; swap; · iexact H4
                  ipureintro; exact h4
  isplitl [H9]
  · iexists _; isplitr; swap; · iexact H9
    ipureintro
    frame_out
    funext x
    unfold queryPair rowTile
    have hx1 : (x 1).val < 512 := (x 1).isLt
    by_cases h : (x 1).val < 256
    · rw [dif_pos h, View.read_writes_cons_unit_of_not_mem arg9.view _ _ _ _ x rfl 1 (Or.inl h)]
      exact View.read_writes_cons_unit_of_mem arg9.view _ _ _ _ x _ rfl (Fin.forall_fin_two.2 ⟨(Nat.zero_add _).symm, (Nat.zero_add _).symm⟩)
    · rw [dif_neg h]
      exact View.read_writes_cons_unit_of_mem arg9.view _ _ _ _ x _ rfl (Fin.forall_fin_two.2 ⟨(Nat.zero_add _).symm,
        (Nat.add_sub_of_le (Nat.le_of_not_lt h)).symm⟩)
  isplitl [H10]
  · iexists _; isplitr; swap; · iexact H10
    ipureintro
    exact (View.read_writes_full arg10.view _ _ _ _).trans rfl
  isplitl [H11]
  · iexists _; isplitr; swap; · iexact H11
    ipureintro
    exact (View.read_writes_full arg11.view _ _ _ _).trans rfl
  iexists _; isplitr; swap; · iexact H12
  ipureintro
  exact (View.read_writes_full arg12.view _ _ _ _).trans rfl

set_option maxHeartbeats 2000000 in
theorem part4_spec (t1 : Fin k0_t1_loop.trips) (w : BitVec 32) (X4 X5 : Vec F S1x8192x128 .bf16) (X6 : Vec F S1x128x8192 .bf16)
    (E : Set ℕ) :
    outerInv c arg4 arg5 arg6 arg9 arg10 arg11 arg12 t1 X4 X5 X6 (k0_pay21, k0_pay22, k0_pay23)
      ⊢ wp frame (wpE (defs₀ (F := F)) Variants.none (c : Thread nD τ) none) E (k0_part4 (F := F) i arg2 harg2 arg3 harg3 arg4 harg4 arg5 harg5 arg6 harg6 arg7 harg7 arg8 harg8 arg9 harg9 arg10 harg10 arg11 harg11 arg12 harg12 t1 w)
          (fun r => iprop(⌜r.2.2.1 = k0_pay28 (rowTile t1 X5) (queryPair t1 X4) (st t1 (queryPair t1 X4) X5 X6 (k0_t2_loop t1).trips).1
              ∧ r.2.2.2.1 = k0_pay29 (rowTile t1 X5) (queryPair t1 X4) (st t1 (queryPair t1 X4) X5 X6 (k0_t2_loop t1).trips).1
              ∧ r.2.2.2.2 = k0_pay30 (rowTile t1 X5) (queryPair t1 X4) (st t1 (queryPair t1 X4) X5 X6 (k0_t2_loop t1).trips).1
                  (st t1 (queryPair t1 X4) X5 X6 (k0_t2_loop t1).trips).2.1⌝
            ∗ outerInv c arg4 arg5 arg6 arg9 arg10 arg11 arg12 t1 X4 X5 X6 (st t1 (queryPair t1 X4) X5 X6 (k0_t2_loop t1).trips))) := by
  simp only [k0_part4_eq_skeleton]
  unfold k0_part4_skel outerInv
  iintro ⟨H4, H5, H6, H9, H10, H11, H12⟩
  dsimp only
  sl_for (fun k _ => innerInv c arg5 arg6 arg9 arg10 arg11 arg12 t1 (queryPair t1 X4) X5 X6 k) $$ [H5 H6 H9 H10 H11 H12]
  · intro k _
    exact inner_step c i arg2 harg2 arg3 harg3 arg4 harg4 arg5 harg5 arg6 harg6 arg7 harg7 arg8 harg8 arg9 harg9 arg10 harg10 arg11 harg11 arg12 harg12 t1 w (queryPair t1 X4) X5 X6 k E
  · unfold innerInv
    isplitl [H5]; · iexact H5
    isplitl [H6]; · iexact H6
    isplitl [H9]; · iexact H9
    isplitl [H10]; · iexact H10
    isplitl [H11]; · iexact H11
    iexact H12
  iintro %acc HI
  unfold innerInv
  generalize st t1 (queryPair t1 X4) X5 X6 (k0_t2_loop t1).trips = s
  obtain ⟨m, l, a⟩ := s
  unfold owns
  icases HI with ⟨⟨%f5, %h5, H5⟩, ⟨%f6, %h6, H6⟩, ⟨%f9, %h9, H9⟩, ⟨%f10, %h10, H10⟩, ⟨%f11, %h11, H11⟩, ⟨%f12, %h12, H12⟩⟩
  obtain rfl := harg5.eq_unread h5; obtain rfl := harg6.eq_unread h6; obtain rfl := harg9.eq_unread h9
  obtain rfl := harg10.eq_unread h10; obtain rfl := harg11.eq_unread h11; obtain rfl := harg12.eq_unread h12
  sl_exec
  sl_step
  isplitr
  · ipureintro
    frame_out
    exact ⟨rfl, rfl, rfl⟩
  isplitl [H4]; · iexact H4
  isplitl [H5]; · iexists _; isplitr; swap; · iexact H5
                  ipureintro; exact h5
  isplitl [H6]; · iexists _; isplitr; swap; · iexact H6
                  ipureintro; exact h6
  isplitl [H9]; · iexists _; isplitr; swap; · iexact H9
                  ipureintro; exact h9
  isplitl [H10]; · iexists _; isplitr; swap; · iexact H10
                   ipureintro; exact h10
  isplitl [H11]; · iexists _; isplitr; swap; · iexact H11
                   ipureintro; exact h11
  iexists _; isplitr; swap; · iexact H12
  ipureintro; exact h12

set_option maxHeartbeats 2000000 in
theorem part5_spec (v16 : FVec F S1x1 .f32) (t1 : Fin k0_t1_loop.trips) (v59 : BitVec 32) (v78 v80 : FVec F S1x512 .f32)
    (v83 : FVec F S256x512 .f32) (v88 : FVec F S1x512 .f32) (X6 : Vec F S1x128x8192 .bf16)
    (d10 d11 : Vec F S1x512 .f32) (d12 : Vec F S128x512 .f32) (E : Set ℕ) :
    iprop(owns (c : Thread nD τ) arg6 fullShare X6 ∗ owns (c : Thread nD τ) arg10 fullShare d10
      ∗ owns (c : Thread nD τ) arg11 fullShare d11 ∗ owns (c : Thread nD τ) arg12 fullShare d12 : sProp 𝕄)
      ⊢ wp frame (wpE (defs₀ (F := F)) Variants.none (c : Thread nD τ) none) E (k0_part5 (F := F) i arg2 harg2 arg3 harg3 arg4 harg4 arg5 harg5 arg6 harg6 arg7 harg7 arg8 harg8 arg9 harg9 arg10 harg10 arg11 harg11 arg12 harg12 v16 t1 v59 v78 v80 v83 v88)
          (fun r => iprop(⌜r = k0_pay34 v16 (k0_pay33 v80 v83 (diagVal t1 X6) d12) (k0_pay31 v88)⌝
            ∗ owns (c : Thread nD τ) arg6 fullShare X6
            ∗ (∃ d, owns (c : Thread nD τ) arg10 fullShare d) ∗ (∃ d, owns (c : Thread nD τ) arg11 fullShare d)
            ∗ (∃ d, owns (c : Thread nD τ) arg12 fullShare d))) := by
  simp only [k0_part5_eq_skeleton]
  unfold k0_part5_skel
  unfold owns
  iintro ⟨⟨%f6, %h6, H6⟩, ⟨%f10, %h10, H10⟩, ⟨%f11, %h11, H11⟩, ⟨%f12, %h12, H12⟩⟩
  obtain rfl := harg6.eq_unread h6
  obtain rfl := harg10.eq_unread h10; obtain rfl := harg11.eq_unread h11; obtain rfl := harg12.eq_unread h12
  sl_exec
  sl_step
  isplitr
  · ipureintro
    frame_out
    rfl
  isplitl [H6]; · iexists _; isplitr; swap; · iexact H6
                  ipureintro; exact h6
  isplitl [H10]; · iexists _; iexists _; isplitr; swap; · iexact H10
                   ipureintro; rfl
  isplitl [H11]; · iexists _; iexists _; isplitr; swap; · iexact H11
                   ipureintro; rfl
  iexists _; iexists _; isplitr; swap; · iexact H12
  ipureintro; rfl

theorem owns_open {sp : Space} {S : Shape} {e : EltTy} (c : Dev nD) (r : Memref sig .tc sp S e) (X : Vec F S e) :
    (owns (c : Thread nD τ) r fullShare X : sProp 𝕄)
      ⊢ iprop(∃ f, ⌜r.view.read (Elt F) f = X⌝ ∗ (r.view.loc (c : Thread nD τ) ↦[r.view.set]{fullShare} f)) := .rfl

theorem owns_close {sp : Space} {S : Shape} {e : EltTy} (c : Dev nD) (r : Memref sig .tc sp S e) (X : Vec F S e)
    (f : r.view.ty.Contents (Elt F)) (h : r.view.read (Elt F) f = X) :
    (r.view.loc (c : Thread nD τ) ↦[r.view.set]{fullShare} f : sProp 𝕄) ⊢ owns (c : Thread nD τ) r fullShare X := by
  unfold owns
  iintro H
  iexists f
  isplitr
  · ipureintro; exact h
  · iexact H

/-- Everything the sweep over the query tiles reads and writes, before trip `k`: the output rows of the tiles done so far
are those of `outBlock`. -/
def sweepInv (X2 : Vec F S4x64 .f32) (X3 : Vec F S1x128 .f32) (X4 X5 : Vec F S1x8192x128 .bf16) (X6 : Vec F S1x128x8192 .bf16)
    (X7 : Vec F S1x8192x128 .bf16) (k : ℕ) : sProp 𝕄 :=
  iprop(owns (c : Thread nD τ) arg3 fullShare X3
    ∗ owns (c : Thread nD τ) arg4 fullShare X4 ∗ owns (c : Thread nD τ) arg5 fullShare X5 ∗ owns (c : Thread nD τ) arg6 fullShare X6
    ∗ owns (c : Thread nD τ) arg7 fullShare X7
    ∗ (∃ d, ⌜∀ x : S1x8192x128.Idx, (x 1).val < 256 * k → d x = outBlock X2 X3 X4 X5 X6 X7 x⌝ ∗ owns (c : Thread nD τ) arg8 fullShare d)
    ∗ (∃ d, owns (c : Thread nD τ) arg9 fullShare d) ∗ (∃ d, owns (c : Thread nD τ) arg10 fullShare d)
    ∗ (∃ d, owns (c : Thread nD τ) arg11 fullShare d) ∗ (∃ d, owns (c : Thread nD τ) arg12 fullShare d))

set_option maxHeartbeats 2000000 in
theorem outer_step (X2 : Vec F S4x64 .f32) (X3 : Vec F S1x128 .f32) (X4 X5 : Vec F S1x8192x128 .bf16) (X6 : Vec F S1x128x8192 .bf16)
    (X7 : Vec F S1x8192x128 .bf16) (t1 : Fin k0_t1_loop.trips) (E : Set ℕ) :
    sweepInv c arg3 arg4 arg5 arg6 arg7 arg8 arg9 arg10 arg11 arg12 X2 X3 X4 X5 X6 X7 t1.val
      ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 arg12 harg12 X2 t1 ⟨⟩)
          (fun _ => sweepInv c arg3 arg4 arg5 arg6 arg7 arg8 arg9 arg10 arg11 arg12 X2 X3 X4 X5 X6 X7 (t1.val + 1)) := by
  unfold sweepInv k0_t1_body
  iintro ⟨H3, H4, H5, H6, H7, ⟨%d8, %hd, H8⟩, ⟨%d9, H9⟩, ⟨%d10, H10⟩, ⟨%d11, H11⟩, ⟨%d12, H12⟩⟩
  ihave H3 := (owns_open c arg3 X3) $$ H3
  ihave H7 := (owns_open c arg7 X7) $$ H7
  ihave H8 := (owns_open c arg8 d8) $$ H8
  icases H3 with ⟨%f3, %h3, H3⟩
  icases H7 with ⟨%f7, %h7, H7⟩
  icases H8 with ⟨%f8, %h8, H8⟩
  obtain rfl := harg3.eq_unread h3; obtain rfl := harg7.eq_unread h7; obtain rfl := harg8.eq_unread h8
  have c3 := part3_spec c i arg2 harg2 arg3 harg3 arg4 harg4 arg5 harg5 arg6 harg6 arg7 harg7 arg8 harg8 arg9 harg9 arg10 harg10 arg11 harg11 arg12 harg12 t1 X4 d9 d10 d11 d12 E
  have c4 := fun w => part4_spec c i arg2 harg2 arg3 harg3 arg4 harg4 arg5 harg5 arg6 harg6 arg7 harg7 arg8 harg8 arg9 harg9 arg10 harg10 arg11 harg11 arg12 harg12 t1 w X4 X5 X6 E
  have c5 := fun v16 v59 v78 v80 v83 v88 d10 d11 d12 => part5_spec c i arg2 harg2 arg3 harg3 arg4 harg4 arg5 harg5 arg6 harg6 arg7 harg7 arg8 harg8 arg9 harg9 arg10 harg10 arg11 harg11 arg12 harg12 v16 t1 v59 v78 v80 v83 v88 X6 d10 d11 d12 E
  unfold outerInv at c4
  sl_exec
  sl_step
  have hr : k0_part5_r = k0_pay34 (k0_pay1 X2) (k0_pay33 v80 v83 (diagVal t1 X6)
      (st t1 (queryPair t1 X4) X5 X6 (k0_t2_loop t1).trips).2.2) (k0_pay31 v88) := by
    rw [hk0_part5_0, hk0_part4_13]
  obtain ⟨e80, e83, e88⟩ := hk0_part4_0
  dsimp only at e80 e83 e88
  subst e80 e83 e88
  isplitl [H3]; · iapply (owns_close c arg3 X3 _ h3) $$ H3
  isplitl [Hk0_part4_2]; · iapply (owns_close c arg4 X4 _ hk0_part4_1) $$ Hk0_part4_2
  isplitl [Hk0_part4_4]; · iapply (owns_close c arg5 X5 _ hk0_part4_3) $$ Hk0_part4_4
  isplitl [Hk0_part5_2]; · iapply (owns_close c arg6 X6 _ hk0_part5_1) $$ Hk0_part5_2
  isplitl [H7]; · iapply (owns_close c arg7 X7 _ h7) $$ H7
  isplitl [H8]
  · iexists _
    isplitr
    swap
    · iapply (owns_close c arg8 _ _ rfl) $$ H8
    · ipureintro
      frame_out
      intro x hx
      have hx1 : (x 1).val < 8192 := (x 1).isLt
      by_cases h : (x 1).val < 256 * t1.val
      · refine (View.read_writes_cons_unit_of_not_mem arg8.view _ _ _ _ x (k0_off1_eq t1) 1 (Or.inl h)).trans ?_
        exact (congrFun h8 x).trans (hd x h)
      · have hq : (x 1).val / 256 = t1.val := by omega
        have hr2 : (x 1).val % 256 + 256 * t1.val = (x 1).val := by omega
        refine (View.read_writes_cons_unit_of_mem arg8.view _ _ _ _ x
          (inTile x) (k0_off1_eq t1) ?_).trans ?_
        · intro a
          match a with
          | 0 => exact (Nat.zero_add _).symm
          | 1 => show (x 1).val = 256 * t1.val + (x 1).val % 256; omega
          | 2 => exact (Nat.zero_add _).symm
        · have ht : (⟨(x 1).val / 256, by rw [t1_trips]; omega⟩ : Fin k0_t1_loop.trips) = t1 := Fin.ext hq
          unfold outBlock
          rw [ht, hr]
          rfl
  isplitl [Hk0_part4_8]; · iexists _; iapply (owns_close c arg9 _ _ rfl) $$ Hk0_part4_8
  isplitl [Hk0_part5_4]; · iexists _; iapply (owns_close c arg10 _ _ rfl) $$ Hk0_part5_4
  isplitl [Hk0_part5_6]; · iexists _; iapply (owns_close c arg11 _ _ rfl) $$ Hk0_part5_6
  iexists _; iapply (owns_close c arg12 _ _ rfl) $$ Hk0_part5_8

set_option maxHeartbeats 2000000 in
/-- THE BODY, RUN ONCE: the blocks read are kept, the output block is `outBlock`. -/
theorem body_spec (X2 : Vec F S4x64 .f32) (X3 : Vec F S1x128 .f32) (X4 X5 : Vec F S1x8192x128 .bf16) (X6 : Vec F S1x128x8192 .bf16)
    (X7 d8 : Vec F S1x8192x128 .bf16) (d9 : Vec F S128x512 .bf16) (d10 d11 : Vec F S1x512 .f32) (d12 : Vec F S128x512 .f32) (E : Set ℕ) :
    iprop(owns (c : Thread nD τ) arg2 fullShare X2 ∗ owns (c : Thread nD τ) arg3 fullShare X3
      ∗ owns (c : Thread nD τ) arg4 fullShare X4 ∗ owns (c : Thread nD τ) arg5 fullShare X5 ∗ owns (c : Thread nD τ) arg6 fullShare X6
      ∗ owns (c : Thread nD τ) arg7 fullShare X7 ∗ owns (c : Thread nD τ) arg8 fullShare d8
      ∗ owns (c : Thread nD τ) arg9 fullShare d9 ∗ owns (c : Thread nD τ) arg10 fullShare d10
      ∗ owns (c : Thread nD τ) arg11 fullShare d11 ∗ owns (c : Thread nD τ) arg12 fullShare d12 : sProp 𝕄)
      ⊢ wp frame (wpE (defs₀ (F := F)) Variants.none (c : Thread nD τ) none) E (cc0_diff_attention (F := F) i arg2 harg2 arg3 harg3 arg4 harg4 arg5 harg5 arg6 harg6 arg7 harg7 arg8 harg8 arg9 harg9 arg10 harg10 arg11 harg11 arg12 harg12)
          (fun _ => iprop(owns (c : Thread nD τ) arg2 fullShare X2 ∗ owns (c : Thread nD τ) arg3 fullShare X3
            ∗ owns (c : Thread nD τ) arg4 fullShare X4 ∗ owns (c : Thread nD τ) arg5 fullShare X5 ∗ owns (c : Thread nD τ) arg6 fullShare X6
            ∗ owns (c : Thread nD τ) arg7 fullShare X7 ∗ owns (c : Thread nD τ) arg8 fullShare (outBlock X2 X3 X4 X5 X6 X7)
            ∗ (∃ d, owns (c : Thread nD τ) arg9 fullShare d) ∗ (∃ d, owns (c : Thread nD τ) arg10 fullShare d)
            ∗ (∃ d, owns (c : Thread nD τ) arg11 fullShare d) ∗ (∃ d, owns (c : Thread nD τ) arg12 fullShare d))) := by
  simp only [cc0_diff_attention_eq_skeleton]
  unfold cc0_diff_attention_skel
  iintro ⟨H2, H3, H4, H5, H6, H7, H8, H9, H10, H11, H12⟩
  ihave H2 := (owns_open c arg2 X2) $$ H2
  icases H2 with ⟨%f2, %h2, H2⟩
  obtain rfl := harg2.eq_unread h2
  sl_rw [Prog.bind_lift]
  sl_step
  rw [View.readAt_eq_ld, h2, View.ld_unit_lit _ _ (by decide)]
  sl_for (fun k _ => sweepInv c arg3 arg4 arg5 arg6 arg7 arg8 arg9 arg10 arg11 arg12 X2 X3 X4 X5 X6 X7 k) $$ [H3 H4 H5 H6 H7 H8 H9 H10 H11 H12]
  · intro k _
    exact outer_step c i arg2 harg2 arg3 harg3 arg4 harg4 arg5 harg5 arg6 harg6 arg7 harg7 arg8 harg8 arg9 harg9 arg10 harg10 arg11 harg11 arg12 harg12 X2 X3 X4 X5 X6 X7 k E
  · unfold sweepInv
    isplitl [H3]; · iexact H3
    isplitl [H4]; · iexact H4
    isplitl [H5]; · iexact H5
    isplitl [H6]; · iexact H6
    isplitl [H7]; · iexact H7
    isplitl [H8]
    · iexists d8
      isplitr
      · ipureintro; intro x hx; exact absurd hx (by omega)
      · iexact H8
    isplitl [H9]; · iexists _; iexact H9
    isplitl [H10]; · iexists _; iexact H10
    isplitl [H11]; · iexists _; iexact H11
    iexists _; iexact H12
  iintro %acc HI
  unfold sweepInv
  icases HI with ⟨H3, H4, H5, H6, H7, ⟨%d, %hd, H8⟩, H9, H10, H11, H12⟩
  obtain rfl : d = outBlock X2 X3 X4 X5 X6 X7 := funext fun x => hd x (by
    have h : (x 1).val < 8192 := (x 1).isLt
    show (x 1).val < 256 * k0_t1_loop.trips; rw [t1_trips]; omega)
  sl_step
  isplitl [H2]; · iapply (owns_close c arg2 X2 _ h2) $$ H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

end Run

end Cert.Proof.KernelIdeal

end
-- ==== Proof.AttnFrameIdeal.lean ====
/-
  The launch of the attention call: what each window holds around the body, the body at every grid point, and the run
  of the whole program.
-/
module

public import proofs.«01_k».proof.Proof.AttnBodyIdeal
public import Idealize.ShloMosaic.Lib.Pipeline.FrameBody
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The output block at point `t`. -/
def outAt (c : Dev nD) (t : Fin cfg0.N) : Vec F S1x8192x128 .bf16 :=
  outBlock (iblk m c 0 t) (iblk m c 1 t) (iblk m c 2 t) (iblk m c 3 t) (iblk m c 4 t) (iblk m c 5 t)

/-- After the body each input's buffer holds its block and the output's holds `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- The scratch buffers as memrefs owned at some contents, and the generator's register. -/
theorem PhiA_eq (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d) ∗ (∃ d, owns (c : Thread nD τ) (Memref.whole cc0_scratch3) fullShare d))
        ∗ (∃ r, prngReg c r)) := by
  unfold Pipeline.ΦA; rw [scopedRest0_eq]; simp only [owns_whole]; try rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  rw [show (dats m 0 c).Φ t.castSucc = Pipeline.ΦA spec0 c from rfl, PhiA_eq]
  iintro ⟨⟨⟨⟨%s0, S0⟩, ⟨%s1, S1⟩, ⟨%s2, S2⟩, ⟨%s3, S3⟩⟩, Hg⟩, Ho, ⟨%d0, H0⟩, ⟨%d1, H1⟩, ⟨%d2, H2⟩, ⟨%d3, H3⟩, ⟨%d4, H4⟩, ⟨%d5, H5⟩, ⟨%d6, H6⟩⟩
  iapply (wp_wand_r frame (wpE (defs₀ (F := F)) Variants.none c none) Set.univ)
  isplitl [S0 S1 S2 S3 H0 H1 H2 H3 H4 H5 H6]
  · iapply (body_spec c (grid0.coords t) _ _ _ _ _ _ _ _ _ _ _ _ _ _ _ _ _ _ _ _ _ _ (iblk m c 0 t) (iblk m c 1 t) (iblk m c 2 t) (iblk m c 3 t)
      (iblk m c 4 t) (iblk m c 5 t) ((dats m 0 c).before 6 t d6) s0 s1 s2 s3 Set.univ)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [S0]; · iexact S0
    isplitl [S1]; · iexact S1
    isplitl [S2]; · iexact S2
    iexact S3
  iintro %r ⟨H0, H1, H2, H3, H4, H5, H6, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: it terminates, every array is at what the proof data say, and every semaphore is at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame: the arguments end unchanged and every semaphore counter is zero. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Proof.KernelIdeal

end
-- ==== Proof.MergeValue.lean ====
/- The value of the merge kernel: its result array is the reference's term, block by block. -/
module

public import proofs.«01_k».proof.Proof.Gen.Kernel3Ideal.Value
public import proofs.«01_k».proof.Proof.Gen.Reference3Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.Merge

section Ref
open Cert.Reference3Ideal Cert.Reference3Ideal.Gen

/-- What the reference computes from the nine arguments: the term its run leaves in the result. -/
abbrev REF (A0 : FVec Ideal S4x8192x2048 .f32) (A1 : FVec Ideal S4x8192x1024 .bf16) (A2 : FVec Ideal S32768x1024 .bf16)
    (A3 : FVec Ideal S32768x10240 .bf16) (A4 : FVec Ideal S1x1024x1024 .f32) (A5 : FVec Ideal S1x1024 .f32)
    (A6 : FVec Ideal S1x1024x2048 .f32) (A7 : FVec Ideal S1x1024x2048 .f32) (A8 : FVec Ideal S1x2048x2048 .f32) :
    FVec Ideal S32768x2048 .f32 :=
  addf (shapeCast _ A0 shapeCasts_S4x8192x2048_S32768x2048) (Host.dotGeneral dot_S32768x2048_S2048x2048_S32768x2048_1_0_0_1_n_n none (addf (mulf (extractStridedSlice S32768x2048 ![0, 6144] (extf .f32 A3 bitsLt_bf16_f32) slices_S32768x10240_S32768x2048_0_6144) (Host.dotGeneral dot_S32768x1024_S1024x2048_S32768x2048_1_0_0_1_n_n none (shapeCast _ (extf .f32 A1 bitsLt_bf16_f32) shapeCasts_S4x8192x1024_S32768x1024) (shapeCast _ A6 shapeCasts_S1x1024x2048_S1024x2048))) (mulf (extractStridedSlice S32768x2048 ![0, 8192] (extf .f32 A3 bitsLt_bf16_f32) slices_S32768x10240_S32768x2048_0_8192) (Host.dotGeneral dot_S32768x1024_S1024x2048_S32768x2048_1_0_0_1_n_n none (mulf (mulf (extf .f32 A2 bitsLt_bf16_f32) (Host.divf (broadcastInDim S32768x1024 ![] bcast_S_S32768x1024 (constant S_ .f32 0x3F800000#32)) (addf (broadcastInDim S32768x1024 ![] bcast_S_S32768x1024 (constant S_ .f32 0x3F800000#32)) (Host.exp (Host.negf (addf (Host.dotGeneral dot_S32768x1024_S1024x1024_S32768x1024_1_0_0_1_n_n none (extf .f32 A2 bitsLt_bf16_f32) (shapeCast _ A4 shapeCasts_S1x1024x1024_S1024x1024)) (broadcastInDim S32768x1024 ![0, 1] bcast_S1x1024_S32768x1024_0_1 (broadcastInDim S1x1024 ![1] bcast_S1024_S1x1024_1 (shapeCast _ A5 shapeCasts_S1x1024_S1024))))))))) (extractStridedSlice S32768x1024 ![0, 5120] (extf .f32 A3 bitsLt_bf16_f32) slices_S32768x10240_S32768x1024_0_5120)) (shapeCast _ A7 shapeCasts_S1x1024x2048_S1024x2048)))) (shapeCast _ A8 shapeCasts_S1x2048x2048_S2048x2048))

end Ref

open Cert.Kernel3Ideal Cert.Kernel3Ideal.Gen

variable (m : (ℓ : Loc nD τ sig) → Buf (Elt Ideal) ℓ)

/-- The reference's term of the kernel's argument arrays. -/
abbrev refOf (c : Dev nD) : FVec Ideal Cert.Reference3Ideal.S32768x2048 .f32 :=
  REF (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- Which block of its array each window holds at grid point `t`. -/
theorem idx : ∀ t : Fin cfg0.N, win0_0.index t = ![t.val, 0] ∧ win0_1.index t = ![t.val, 0] ∧ win0_2.index t = ![t.val, 0]
    ∧ win0_3.index t = ![t.val, 5] ∧ win0_4.index t = ![t.val, 3] ∧ win0_5.index t = ![t.val, 4] ∧ win0_6.index t = ![0, 0]
    ∧ win0_7.index t = ![0, 0] ∧ win0_8.index t = ![0, 0] ∧ win0_9.index t = ![0, 0] ∧ win0_10.index t = ![0, 0]
    ∧ win0_11.index t = ![t.val, 0] :=
  (by decide +kernel : ∀ t : Fin grid0.N, _)

/-! What the host's reshapes and casts leave in each staged buffer. -/

theorem V_v0 (c : Dev nD) : V m c main_v0 = shapeCast S32768x2048 (m ((c : Thread nD τ).loc main_arg0)) shapeCasts_S4x8192x2048_S32768x2048 := by
  entry_read; rfl

theorem V_v1 (c : Dev nD) : V m c main_v1 = shapeCast S32768x1024 (m ((c : Thread nD τ).loc main_arg1)) shapeCasts_S4x8192x1024_S32768x1024 := by
  entry_read; rfl

theorem V_v3 (c : Dev nD) : V m c main_v3 = shapeCast S1024x1024 (m ((c : Thread nD τ).loc main_arg4)) shapeCasts_S1x1024x1024_S1024x1024 := by
  entry_read; rfl

theorem V_v5 (c : Dev nD) : V m c main_v5 = shapeCast S1x1024 (shapeCast S1024 (m ((c : Thread nD τ).loc main_arg5)) shapeCasts_S1x1024_S1024) shapeCasts_S1024_S1x1024 := by
  entry_read; rfl

theorem V_v7 (c : Dev nD) : V m c main_v7 = shapeCast S1024x2048 (m ((c : Thread nD τ).loc main_arg6)) shapeCasts_S1x1024x2048_S1024x2048 := by
  entry_read; rfl

theorem V_v9 (c : Dev nD) : V m c main_v9 = shapeCast S1024x2048 (m ((c : Thread nD τ).loc main_arg7)) shapeCasts_S1x1024x2048_S1024x2048 := by
  entry_read; rfl

theorem V_v11 (c : Dev nD) : V m c main_v11 = shapeCast S2048x2048 (m ((c : Thread nD τ).loc main_arg8)) shapeCasts_S1x2048x2048_S2048x2048 := by
  entry_read; rfl

theorem N_eq (t : Fin cfg0.N) : t.val < 128 := t.isLt

/-- The array row that row `r` of point `t`'s block sits at. -/
abbrev row (t : Fin cfg0.N) (r : Fin 256) : Fin 32768 := ⟨256 * t.val + r.val, by have := N_eq t; omega⟩

/-! What each window's block holds, in terms of the argument arrays. -/

theorem cast0 (A : FVec Ideal S4x8192x2048 .f32) (R : Fin 32768) (d : Fin 2048) :
    shapeCast S32768x2048 A shapeCasts_S4x8192x2048_S32768x2048 (ix2 R d)
      = A (ix3 ⟨R.val / 8192, by omega⟩ ⟨R.val % 8192, by omega⟩ d) := by
  pointwise

theorem blk0 (c : Dev nD) (t : Fin cfg0.N) (r : Fin 256) (d : Fin 2048) :
    iblk m c 0 t (ix2 r d) = m ((c : Thread nD τ).loc main_arg0) (ix3 ⟨(row t r).val / 8192, by omega⟩ ⟨(row t r).val % 8192, by omega⟩ d) := by
  refine Eq.trans ?_ (cast0 (m ((c : Thread nD τ).loc main_arg0)) (row t r) d)
  blk_simp [iblk]; rw [V_v0]; blk_ext [idx t]

theorem cast1 (A : FVec Ideal S4x8192x1024 .bf16) (R : Fin 32768) (d : Fin 1024) :
    shapeCast S32768x1024 A shapeCasts_S4x8192x1024_S32768x1024 (ix2 R d)
      = A (ix3 ⟨R.val / 8192, by omega⟩ ⟨R.val % 8192, by omega⟩ d) := by
  pointwise

theorem blk1 (c : Dev nD) (t : Fin cfg0.N) (r : Fin 256) (d : Fin 1024) :
    iblk m c 1 t (ix2 r d) = m ((c : Thread nD τ).loc main_arg1) (ix3 ⟨(row t r).val / 8192, by omega⟩ ⟨(row t r).val % 8192, by omega⟩ d) := by
  refine Eq.trans ?_ (cast1 (m ((c : Thread nD τ).loc main_arg1)) (row t r) d)
  blk_simp [iblk]; rw [V_v1]; blk_ext [idx t]

theorem blk2 (c : Dev nD) (t : Fin cfg0.N) (r : Fin 256) (d : Fin 1024) :
    iblk m c 2 t (ix2 r d) = m ((c : Thread nD τ).loc main_arg2) (ix2 (row t r) d) := by
  blk_ext [iblk, V_main_arg2, idx t]

theorem blk3 (c : Dev nD) (t : Fin cfg0.N) (r : Fin 256) (d : Fin 1024) :
    iblk m c 3 t (ix2 r d) = m ((c : Thread nD τ).loc main_arg3) (ix2 (row t r) ⟨5120 + d.val, by omega⟩) := by
  blk_ext [iblk, V_main_arg3, idx t]

theorem blk4 (c : Dev nD) (t : Fin cfg0.N) (r : Fin 256) (d : Fin 2048) :
    iblk m c 4 t (ix2 r d) = m ((c : Thread nD τ).loc main_arg3) (ix2 (row t r) ⟨6144 + d.val, by omega⟩) := by
  blk_ext [iblk, V_main_arg3, idx t]

theorem blk5 (c : Dev nD) (t : Fin cfg0.N) (r : Fin 256) (d : Fin 2048) :
    iblk m c 5 t (ix2 r d) = m ((c : Thread nD τ).loc main_arg3) (ix2 (row t r) ⟨8192 + d.val, by omega⟩) := by
  blk_ext [iblk, V_main_arg3, idx t]

theorem mat6 (A : FVec Ideal S1x1024x1024 .f32) (r : Fin 1024) (d : Fin 1024) :
    shapeCast S1024x1024 A shapeCasts_S1x1024x1024_S1024x1024 (ix2 r d) = A (ix3 0 r d) := by
  pointwise

theorem blk6 (c : Dev nD) (t : Fin cfg0.N) (r : Fin 1024) (d : Fin 1024) :
    iblk m c 6 t (ix2 r d) = m ((c : Thread nD τ).loc main_arg4) (ix3 0 r d) := by
  refine Eq.trans ?_ (mat6 (m ((c : Thread nD τ).loc main_arg4)) r d)
  blk_simp [iblk]; rw [V_v3]; blk_ext [idx t]

theorem bias7 (A : FVec Ideal S1x1024 .f32) (d : Fin 1024) :
    shapeCast S1x1024 (shapeCast S1024 A shapeCasts_S1x1024_S1024) shapeCasts_S1024_S1x1024 (ix2 0 d) = A (ix2 0 d) := by
  pointwise

theorem blk7 (c : Dev nD) (t : Fin cfg0.N) (d : Fin 1024) :
    iblk m c 7 t (ix2 0 d) = m ((c : Thread nD τ).loc main_arg5) (ix2 0 d) := by
  refine Eq.trans ?_ (bias7 (m ((c : Thread nD τ).loc main_arg5)) d)
  blk_simp [iblk]; rw [V_v5]; blk_ext [idx t]

theorem mat8 (A : FVec Ideal S1x1024x2048 .f32) (r : Fin 1024) (d : Fin 2048) :
    shapeCast S1024x2048 A shapeCasts_S1x1024x2048_S1024x2048 (ix2 r d) = A (ix3 0 r d) := by
  pointwise

theorem blk8 (c : Dev nD) (t : Fin cfg0.N) (r : Fin 1024) (d : Fin 2048) :
    iblk m c 8 t (ix2 r d) = m ((c : Thread nD τ).loc main_arg6) (ix3 0 r d) := by
  refine Eq.trans ?_ (mat8 (m ((c : Thread nD τ).loc main_arg6)) r d)
  blk_simp [iblk]; rw [V_v7]; blk_ext [idx t]

theorem mat9 (A : FVec Ideal S1x1024x2048 .f32) (r : Fin 1024) (d : Fin 2048) :
    shapeCast S1024x2048 A shapeCasts_S1x1024x2048_S1024x2048 (ix2 r d) = A (ix3 0 r d) := by
  pointwise

theorem blk9 (c : Dev nD) (t : Fin cfg0.N) (r : Fin 1024) (d : Fin 2048) :
    iblk m c 9 t (ix2 r d) = m ((c : Thread nD τ).loc main_arg7) (ix3 0 r d) := by
  refine Eq.trans ?_ (mat9 (m ((c : Thread nD τ).loc main_arg7)) r d)
  blk_simp [iblk]; rw [V_v9]; blk_ext [idx t]

theorem mat10 (A : FVec Ideal S1x2048x2048 .f32) (r : Fin 2048) (d : Fin 2048) :
    shapeCast S2048x2048 A shapeCasts_S1x2048x2048_S2048x2048 (ix2 r d) = A (ix3 0 r d) := by
  pointwise

theorem blk10 (c : Dev nD) (t : Fin cfg0.N) (r : Fin 2048) (d : Fin 2048) :
    iblk m c 10 t (ix2 r d) = m ((c : Thread nD τ).loc main_arg8) (ix3 0 r d) := by
  refine Eq.trans ?_ (mat10 (m ((c : Thread nD τ).loc main_arg8)) r d)
  blk_simp [iblk]; rw [V_v11]; blk_ext [idx t]

/-- Reading an array at the place of block index `y` of point `t`. -/
theorem emb_at (t : Fin cfg0.N) (r : Fin 256) (d : Fin 2048) (f : S32768x2048.Idx → EReal) :
    f (((cfg0.win 11).blk t).view.emb (ix2 r d)) = f (ix2 (row t r) d) := by
  blk_ext [idx t]

/-- What the body stores at block index `y` of point `t` is the reference's term at the array index `y` sits at. -/
theorem point (c : Dev nD) (t : Fin cfg0.N) (r : Fin 256) (d : Fin 2048) :
    k0_pay1 (k0_pay2 (iblk m c 0 t)) (k0_pay3 (iblk m c 2 t) (iblk m c 6 t) (iblk m c 7 t) (iblk m c 3 t) (iblk m c 4 t) (iblk m c 1 t)
      (iblk m c 8 t) (iblk m c 5 t) (iblk m c 9 t)) (iblk m c 10 t) (ix2 r d)
    = refOf m c (((cfg0.win 11).blk t).view.emb (ix2 r d)) := by
  rw [emb_at t r d (refOf m c)]
  pointwise [k0_pay1, k0_pay2, k0_pay3, refOf, REF]
  simp only [blk0, blk1, blk2, blk3, blk4, blk5, blk6, blk7, blk8, blk9, blk10]
  delta Ideal.logistic
  rfl

theorem point' (c : Dev nD) (t : Fin cfg0.N) (y : S256x2048.Idx) :
    k0_pay1 (k0_pay2 (iblk m c 0 t)) (k0_pay3 (iblk m c 2 t) (iblk m c 6 t) (iblk m c 7 t) (iblk m c 3 t) (iblk m c 4 t) (iblk m c 1 t)
      (iblk m c 8 t) (iblk m c 5 t) (iblk m c 9 t)) (iblk m c 10 t) y
    = refOf m c (((cfg0.win 11).blk t).view.emb y) := by
  have e : y = ix2 (y 0) (y 1) := by pointwise
  exact (congrArg (fun z : S256x2048.Idx => k0_pay1 (k0_pay2 (iblk m c 0 t)) (k0_pay3 (iblk m c 2 t) (iblk m c 6 t) (iblk m c 7 t)
      (iblk m c 3 t) (iblk m c 4 t) (iblk m c 1 t) (iblk m c 8 t) (iblk m c 5 t) (iblk m c 9 t)) (iblk m c 10 t) z
      = refOf m c (((cfg0.win 11).blk t).view.emb z)) e).mpr (point m c t (y 0) (y 1))

/-- The result array after the run is the reference's term. -/
theorem final (c : Dev nD) : (dats m 0 c).arrAt 11 (cfgs 0).N = refOf m c := by
  refine (dats m 0 c).arrAt_eq_of_covers 11 _ (by decide +kernel) fun t _ y => ?_
  blk_simp
  rw [after0_11]; frame_out
  exact point' m c t y

end Cert.Proof.Merge

end
-- ==== Proof.AttnPoint.lean ====
/- The attention body's vector expressions, read at one index. -/
module

public import proofs.«01_k».proof.Proof.AttnBodyIdeal
public import Idealize.ShloMosaic.Lib.WordCmp
public import Idealize.ShloMosaic.Lib.IdealHost

@[expose] public section

set_option maxRecDepth 16384

noncomputable section

namespace Cert.Proof.KernelIdeal

open Cert.KernelIdeal Cert.KernelIdeal.Gen
open Idealize.ShloMosaic Idealize.ShloMosaic.TcCoe

/-! The literals the two programs share. -/

theorem bits_bot : Ideal.ofBits .f32 0xFF800000#32 = ⊥ := by simp [Ideal.ofBits, Ideal.ieee]

theorem bits_one : Ideal.ofBits .f32 0x3F800000#32 = 1 := Ideal.ofBits_one_f32

theorem mask_bot : (Named.named (F := Ideal) κ "mask" (φ := .f32) 0xF149F2CA#32 : EReal) = ⊥ := rfl

/-- A column of the pair of score tiles, taken modulo the tile width, in 32-bit words. -/
theorem col_word : ∀ k : Fin 512, Scalar.select (IntOp.cmpi CmpIPredicate.sge (BitVec.ofNat 32 k.val) 256#32)
    (IntOp.subi (BitVec.ofNat 32 k.val) 256#32) (BitVec.ofNat 32 k.val) = BitVec.ofNat 32 (k.val % 256) := by
  decide +kernel

/-- A selection by the comparison of two small numbers. -/
theorem sel_le {α : Type} (a b : ℕ) (ha : a < 2 ^ 31) (hb : b < 2 ^ 31) (x y : α) :
    Scalar.select (IntOp.cmpi CmpIPredicate.sle (BitVec.ofNat 32 a) (BitVec.ofNat 32 b)) x y = if a ≤ b then x else y := by
  rw [WordCmp.cmpi_sle_ofNat ha hb]
  by_cases h : a ≤ b <;> simp [h, Scalar.select]

theorem sel_lt {α : Type} (a b : ℕ) (ha : a < 2 ^ 31) (hb : b < 2 ^ 31) (x y : α) :
    Scalar.select (IntOp.cmpi CmpIPredicate.slt (BitVec.ofNat 32 a) (BitVec.ofNat 32 b)) x y = if a < b then x else y := by
  rw [WordCmp.cmpi_slt_ofNat ha hb]
  by_cases h : a < b <;> simp [h, Scalar.select]

theorem sel_ge {α : Type} (a b : ℕ) (ha : a < 2 ^ 31) (hb : b < 2 ^ 31) (x y : α) :
    Scalar.select (IntOp.cmpi CmpIPredicate.sge (BitVec.ofNat 32 a) (BitVec.ofNat 32 b)) x y = if b ≤ a then x else y := by
  rw [WordCmp.cmpi_sge_ofNat ha hb]
  by_cases h : b ≤ a <;> simp [h, Scalar.select]

variable (K : Vec Ideal S1x256x128 .bf16) (Q : Vec Ideal S128x512 .bf16) (m l : Vec Ideal S1x512 .f32)
  (V : Vec Ideal S1x128x256 .bf16) (a : Vec Ideal S128x512 .f32)

/-- The score of key `r` of a tile against query column `k`. -/
def sco (r : Fin 256) (k : Fin 512) : EReal := ∑ d : Fin 128, K (ix3 0 r d) * Q (ix2 d k)

/-- The same on the diagonal tile: masked past the query. -/
def msk (r : Fin 256) (k : Fin 512) : EReal := if r.val ≤ k.val % 256 then sco K Q r k else ⊥

/-! A tile before the diagonal. -/

theorem pay3_at (r : Fin 256) (k : Fin 512) : k0_pay3 K Q (ix2 r k) = sco K Q r k := by
  pointwise [k0_pay3, sco]

theorem pay4_at (k : Fin 512) : k0_pay4 K Q m (ix2 0 k) = max (m (ix2 0 k)) (Finset.univ.fold max ⊥ fun r => sco K Q r k) := by
  rw [← bits_bot]; pointwise [k0_pay4, k0_pay3, sco]

theorem pay8_at (k : Fin 512) : k0_pay8 K Q m (ix2 0 k) = max (m (ix2 0 k)) (Finset.univ.fold max ⊥ fun r => sco K Q r k) := by
  rw [← bits_bot]; pointwise [k0_pay8, k0_pay4, k0_pay3, sco]

theorem pay7_at (k : Fin 512) : k0_pay7 K Q m l (ix2 0 k)
    = Ideal.exp (m (ix2 0 k) - k0_pay4 K Q m (ix2 0 k)) * l (ix2 0 k)
      + ∑ r : Fin 256, Ideal.exp (k0_pay3 K Q (ix2 r k) - k0_pay4 K Q m (ix2 0 k)) := by
  pointwise [k0_pay7, k0_pay6, k0_pay5]

theorem pay9_at (e : Fin 128) (k : Fin 512) : k0_pay24 (k0_pay9 K Q m V a) (ix2 e k)
    = Ideal.exp (m (ix2 0 k) - k0_pay4 K Q m (ix2 0 k)) * a (ix2 e k)
      + ∑ r : Fin 256, V (ix3 0 e r) * Ideal.exp (k0_pay3 K Q (ix2 r k) - k0_pay4 K Q m (ix2 0 k)) := by
  pointwise [k0_pay24, k0_pay9, k0_pay6, k0_pay5]

/-! The diagonal tile. -/

theorem pay26_raw (r : Fin 256) (k : Fin 512) : k0_pay26 K Q (ix2 r k)
    = Scalar.select (IntOp.cmpi CmpIPredicate.sle (BitVec.ofNat 32 r.val)
        (Scalar.select (IntOp.cmpi CmpIPredicate.sge (BitVec.ofNat 32 k.val) 256#32)
          (IntOp.subi (BitVec.ofNat 32 k.val) 256#32) (BitVec.ofNat 32 k.val)))
        (∑ d : Fin 128, K (ix3 0 r d) * Q (ix2 d k)) (Named.named (F := Ideal) κ "mask" (φ := .f32) 0xF149F2CA#32) := by
  pointwise [k0_pay26]

theorem pay26_at (r : Fin 256) (k : Fin 512) : k0_pay26 K Q (ix2 r k) = msk K Q r k := by
  rw [pay26_raw, col_word, mask_bot, sel_le _ _ (by omega) (by omega)]
  rfl

theorem pay27_at (k : Fin 512) : k0_pay27 K Q m (ix2 0 k)
    = max (m (ix2 0 k)) (Finset.univ.fold max ⊥ fun r : Fin 256 => k0_pay26 K Q (ix2 r k)) := by
  rw [← bits_bot]; pointwise [k0_pay27]

theorem pay31_at (k : Fin 512) : k0_pay31 (k0_pay30 K Q m l) (ix2 0 k)
    = Ideal.exp (m (ix2 0 k) - k0_pay27 K Q m (ix2 0 k)) * l (ix2 0 k)
      + ∑ r : Fin 256, Ideal.exp (k0_pay26 K Q (ix2 r k) - k0_pay27 K Q m (ix2 0 k)) := by
  pointwise [k0_pay31, k0_pay30, k0_pay28, k0_pay29]

theorem pay33_at (e : Fin 128) (k : Fin 512) : k0_pay33 (k0_pay28 K Q m) (k0_pay29 K Q m) V a (ix2 e k)
    = Ideal.exp (m (ix2 0 k) - k0_pay27 K Q m (ix2 0 k)) * a (ix2 e k)
      + ∑ r : Fin 256, V (ix3 0 e r) * Ideal.exp (k0_pay26 K Q (ix2 r k) - k0_pay27 K Q m (ix2 0 k)) := by
  pointwise [k0_pay33, k0_pay28, k0_pay29]

/-! The initial state and the two halves of the queries. -/

theorem pay21_at (k : Fin 512) : k0_pay21 (F := Ideal) (ix2 0 k) = ⊥ := by
  refine Eq.trans ?_ mask_bot
  pointwise [k0_pay21]

theorem pay22_at (k : Fin 512) : k0_pay22 (F := Ideal) (ix2 0 k) = 0 := by pointwise [k0_pay22]

theorem pay23_at (e : Fin 128) (k : Fin 512) : k0_pay23 (F := Ideal) (ix2 e k) = 0 := by pointwise [k0_pay23]

theorem pay19_raw (d : Fin 128) (j : Fin 256) : k0_pay19 K (ix2 d j)
    = Scalar.select (IntOp.cmpi CmpIPredicate.slt (BitVec.ofNat 32 d.val) (BitVec.ofNat 32 64)) (K (ix3 0 j d)) 0 := by
  pointwise [k0_pay19, k0_pay17, k0_pay18]

theorem pay20_raw (d : Fin 128) (j : Fin 256) : k0_pay20 K (ix2 d j)
    = Scalar.select (IntOp.cmpi CmpIPredicate.sge (BitVec.ofNat 32 d.val) (BitVec.ofNat 32 64)) (K (ix3 0 j d)) 0 := by
  pointwise [k0_pay20, k0_pay17, k0_pay18]

theorem pay19_at (d : Fin 128) (j : Fin 256) : k0_pay19 K (ix2 d j) = if d.val < 64 then K (ix3 0 j d) else 0 := by
  rw [pay19_raw, sel_lt _ _ (by omega) (by omega)]

theorem pay20_at (d : Fin 128) (j : Fin 256) : k0_pay20 K (ix2 d j) = if 64 ≤ d.val then K (ix3 0 j d) else 0 := by
  rw [pay20_raw, sel_ge _ _ (by omega) (by omega)]

/-! The tile's normalization. -/

/-- The learned weight of the second softmax, from the four staged vectors. -/
def lamK (X2 : Vec Ideal S4x64 .f32) : EReal :=
  Ideal.exp (∑ d : Fin 64, X2 (ix2 0 d) * X2 (ix2 1 d)) - Ideal.exp (∑ d : Fin 64, X2 (ix2 2 d) * X2 (ix2 3 d))
    + Ideal.ofBits .f32 0x3E4CCCCD#32

/-- The first half's average less lambda times the second's. -/
def diffK (X2 : Vec Ideal S4x64 .f32) (j : Fin 256) (e : Fin 128) : EReal :=
  a (ix2 e ⟨j.val, by omega⟩) * Ideal.div (Ideal.ofBits .f32 0x3F800000#32) (l (ix2 0 ⟨j.val, by omega⟩))
    - lamK X2 * (a (ix2 e ⟨256 + j.val, by omega⟩) * Ideal.div (Ideal.ofBits .f32 0x3F800000#32) (l (ix2 0 ⟨256 + j.val, by omega⟩)))

theorem pay2_at (X2 : Vec Ideal S4x64 .f32) (X3 : Vec Ideal S1x128 .f32) (Z : Vec Ideal S1x256x128 .bf16) (j : Fin 256) (e : Fin 128) :
    k0_pay2 (k0_pay34 (k0_pay1 X2) a l) X3 Z (ix3 0 j e)
      = diffK l a X2 j e
        * Ideal.rsqrt (Ideal.div (∑ e : Fin 128, diffK l a X2 j e * diffK l a X2 j e) (Ideal.ofBits .f32 0x43000000#32)
          + Ideal.ofBits .f32 0x358637BD#32)
        * X3 (ix2 0 e) * Z (ix3 0 j e) := by
  pointwise [k0_pay2, k0_pay34, k0_pay1, diffK, lamK]

/-! The tiles the body reads. -/

theorem t2_trips : ∀ t1 : Fin k0_t1_loop.trips, (k0_t2_loop t1).trips = t1.val := by decide +kernel

theorem t1_lt (t1 : Fin k0_t1_loop.trips) : t1.val < 32 := lt_of_lt_of_eq t1.isLt t1_trips

theorem t2_lt (t1 : Fin k0_t1_loop.trips) (t2 : Fin (k0_t2_loop t1).trips) : t2.val < t1.val := lt_of_lt_of_eq t2.isLt (t2_trips t1)

theorem keyTile_at (t1 : Fin k0_t1_loop.trips) (X5 : Vec Ideal S1x8192x128 .bf16) (t2 : Fin (k0_t2_loop t1).trips) (r : Fin 256) (d : Fin 128)
    (h : 256 * t2.val + r.val < 8192) :
    keyTile t1 X5 t2 (ix3 0 r d) = X5 (ix3 0 ⟨256 * t2.val + r.val, h⟩ d) := by
  unfold keyTile
  pointwise [k0_off2_eq]

theorem valTile_at (t1 : Fin k0_t1_loop.trips) (X6 : Vec Ideal S1x128x8192 .bf16) (t2 : Fin (k0_t2_loop t1).trips) (e : Fin 128) (r : Fin 256)
    (h : 256 * t2.val + r.val < 8192) :
    valTile t1 X6 t2 (ix3 0 e r) = X6 (ix3 0 e ⟨256 * t2.val + r.val, h⟩) := by
  unfold valTile
  pointwise [k0_off3_eq]

theorem rowTile_at (t1 : Fin k0_t1_loop.trips) (X : Vec Ideal S1x8192x128 .bf16) (r : Fin 256) (d : Fin 128)
    (h : 256 * t1.val + r.val < 8192) :
    rowTile t1 X (ix3 0 r d) = X (ix3 0 ⟨256 * t1.val + r.val, h⟩ d) := by
  unfold rowTile
  pointwise [k0_off1_eq]

theorem diagVal_at (t1 : Fin k0_t1_loop.trips) (X6 : Vec Ideal S1x128x8192 .bf16) (e : Fin 128) (r : Fin 256)
    (h : 256 * t1.val + r.val < 8192) :
    diagVal t1 X6 (ix3 0 e r) = X6 (ix3 0 e ⟨256 * t1.val + r.val, h⟩) := by
  unfold diagVal
  pointwise [k0_off6_eq]

end Cert.Proof.KernelIdeal

end
-- ==== Proof.AttnBlocks.lean ====
/- What each window of the attention call holds, in terms of the argument arrays. -/
module

public import proofs.«01_k».proof.Proof.AttnFrameIdeal
public import proofs.«01_k».proof.Proof.AttnPoint

@[expose] public section

set_option maxRecDepth 16384

noncomputable section

namespace Cert.Proof.KernelIdeal

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-- Which block of its array each window holds at grid point `t`. -/
theorem idx : ∀ t : Fin cfg0.N, win0_0.index t = ![0, 0] ∧ win0_1.index t = ![0, 0] ∧ win0_2.index t = ![t.val / 8, 0, t.val % 8]
    ∧ win0_3.index t = ![t.val / 8, 0, 8 + t.val % 8] ∧ win0_4.index t = ![t.val / 8, t.val % 8, 0]
    ∧ win0_5.index t = ![t.val / 8, 0, 24 + t.val % 8] ∧ win0_6.index t = ![t.val / 8, 0, t.val % 8] :=
  (by decide +kernel : ∀ t : Fin grid0.N, _)

theorem N_lt (t : Fin cfg0.N) : t.val < 32 := t.isLt

/-- The sequence and the head of point `t`. -/
abbrev seqOf (t : Fin cfg0.N) : Fin 4 := ⟨t.val / 8, by have := N_lt t; omega⟩
abbrev headOf (t : Fin cfg0.N) : Fin 8 := ⟨t.val % 8, by omega⟩

/-! What the host's steps leave in each staged buffer. -/

/-- The four lambda vectors, one under the other. -/
def lams (A0 A1 A2 A3 : FVec Ideal S1x64 .f32) : FVec Ideal S4x64 .f32 :=
  concatenate S4x64 0 [⟨S1x64, broadcastInDim S1x64 ![1] bcast_S64_S1x64_1 (shapeCast S64 A0 shapeCasts_S1x64_S64)⟩,
    ⟨S1x64, broadcastInDim S1x64 ![1] bcast_S64_S1x64_1 (shapeCast S64 A1 shapeCasts_S1x64_S64)⟩,
    ⟨S1x64, broadcastInDim S1x64 ![1] bcast_S64_S1x64_1 (shapeCast S64 A2 shapeCasts_S1x64_S64)⟩,
    ⟨S1x64, broadcastInDim S1x64 ![1] bcast_S64_S1x64_1 (shapeCast S64 A3 shapeCasts_S1x64_S64)⟩] concatenates_S1x64_S1x64_S1x64_S1x64_S4x64_d0

/-- The gain times 0.8. -/
def gain (A4 : FVec Ideal S1x128 .f32) : FVec Ideal S1x128 .f32 :=
  shapeCast S1x128 (mulf (shapeCast S128 A4 shapeCasts_S1x128_S128) (broadcastInDim S128 ![] bcast_S_S128 (constant S_ .f32 0x3F4CCCCD#32))) shapeCasts_S128_S1x128

theorem V_v8 (c : Dev nD) : V m c main_v8 = lams (m ((c : Thread nD τ).loc main_arg0)) (m ((c : Thread nD τ).loc main_arg1))
    (m ((c : Thread nD τ).loc main_arg2)) (m ((c : Thread nD τ).loc main_arg3)) := rfl

theorem V_v12 (c : Dev nD) : V m c main_v12 = gain (m ((c : Thread nD τ).loc main_arg4)) := by
  entry_read; rfl

theorem V_v13 (c : Dev nD) : V m c main_v13 = shapeCast S4x8192x10240 (m ((c : Thread nD τ).loc main_arg5)) shapeCasts_S32768x10240_S4x8192x10240 := by
  entry_read; rfl

theorem lams_0 (A0 A1 A2 A3 : FVec Ideal S1x64 .f32) (d : Fin 64) : lams A0 A1 A2 A3 (ix2 0 d) = A0 (ix2 0 d) := by pointwise [lams]
theorem lams_1 (A0 A1 A2 A3 : FVec Ideal S1x64 .f32) (d : Fin 64) : lams A0 A1 A2 A3 (ix2 1 d) = A1 (ix2 0 d) := by pointwise [lams]
theorem lams_2 (A0 A1 A2 A3 : FVec Ideal S1x64 .f32) (d : Fin 64) : lams A0 A1 A2 A3 (ix2 2 d) = A2 (ix2 0 d) := by pointwise [lams]
theorem lams_3 (A0 A1 A2 A3 : FVec Ideal S1x64 .f32) (d : Fin 64) : lams A0 A1 A2 A3 (ix2 3 d) = A3 (ix2 0 d) := by pointwise [lams]

theorem gain_at (A4 : FVec Ideal S1x128 .f32) (e : Fin 128) : gain A4 (ix2 0 e) = A4 (ix2 0 e) * Ideal.ofBits .f32 0x3F4CCCCD#32 := by
  pointwise [gain]

theorem proj_at (A5 : FVec Ideal S32768x10240 .bf16) (i : Fin 4) (r : Fin 8192) (n : Fin 10240) :
    shapeCast S4x8192x10240 A5 shapeCasts_S32768x10240_S4x8192x10240 (ix3 i r n) = A5 (ix2 ⟨i.val * 8192 + r.val, by omega⟩ n) := by
  pointwise

/-! The blocks. -/

theorem blk0 (c : Dev nD) (t : Fin cfg0.N) (g : Fin 4) (d : Fin 64) :
    iblk m c 0 t (ix2 g d) = lams (m ((c : Thread nD τ).loc main_arg0)) (m ((c : Thread nD τ).loc main_arg1))
    (m ((c : Thread nD τ).loc main_arg2)) (m ((c : Thread nD τ).loc main_arg3)) (ix2 g d) := by
  blk_simp [iblk]; rw [V_v8]; blk_ext [idx t]

theorem blk1 (c : Dev nD) (t : Fin cfg0.N) (e : Fin 128) :
    iblk m c 1 t (ix2 0 e) = gain (m ((c : Thread nD τ).loc main_arg4)) (ix2 0 e) := by
  blk_simp [iblk]; rw [V_v12]; blk_ext [idx t]

theorem blk2 (c : Dev nD) (t : Fin cfg0.N) (r : Fin 8192) (d : Fin 128) :
    iblk m c 2 t (ix3 0 r d) = m ((c : Thread nD τ).loc main_arg5) (ix2 ⟨(seqOf t).val * 8192 + r.val, by have := (seqOf t).isLt; omega⟩ ⟨(headOf t).val * 128 + d.val, by have := (headOf t).isLt; omega⟩) := by
  refine Eq.trans ?_ (proj_at (m ((c : Thread nD τ).loc main_arg5)) (seqOf t) r _)
  blk_simp [iblk]; rw [V_v13]; blk_ext [idx t]

theorem blk3 (c : Dev nD) (t : Fin cfg0.N) (r : Fin 8192) (d : Fin 128) :
    iblk m c 3 t (ix3 0 r d) = m ((c : Thread nD τ).loc main_arg5) (ix2 ⟨(seqOf t).val * 8192 + r.val, by have := (seqOf t).isLt; omega⟩ ⟨1024 + ((headOf t).val * 128 + d.val), by have := (headOf t).isLt; omega⟩) := by
  refine Eq.trans ?_ (proj_at (m ((c : Thread nD τ).loc main_arg5)) (seqOf t) r _)
  blk_simp [iblk]; rw [V_v13]; blk_ext [idx t]

theorem blk4 (c : Dev nD) (t : Fin cfg0.N) (e : Fin 128) (r : Fin 8192) :
    iblk m c 4 t (ix3 0 e r) = m ((c : Thread nD τ).loc main_arg6) (ix3 (seqOf t) ⟨(headOf t).val * 128 + e.val, by have := (headOf t).isLt; omega⟩ r) := by
  blk_ext [iblk, V_main_arg6, idx t]

theorem blk5 (c : Dev nD) (t : Fin cfg0.N) (r : Fin 8192) (d : Fin 128) :
    iblk m c 5 t (ix3 0 r d) = m ((c : Thread nD τ).loc main_arg5) (ix2 ⟨(seqOf t).val * 8192 + r.val, by have := (seqOf t).isLt; omega⟩ ⟨3072 + ((headOf t).val * 128 + d.val), by have := (headOf t).isLt; omega⟩) := by
  refine Eq.trans ?_ (proj_at (m ((c : Thread nD τ).loc main_arg5)) (seqOf t) r _)
  blk_simp [iblk]; rw [V_v13]; blk_ext [idx t]

theorem emb_at (t : Fin cfg0.N) (r : Fin 8192) (e : Fin 128) (f : S4x8192x1024.Idx → EReal) :
    f (((cfg0.win 6).blk t).view.emb (ix3 0 r e)) = f (ix3 (seqOf t) r ⟨(headOf t).val * 128 + e.val, by have := (headOf t).isLt; omega⟩) := by
  blk_ext [idx t]

end Cert.Proof.KernelIdeal

end
-- ==== Proof.AttnState.lean ====
/-
  What the online softmax holds: at tile `n` the running maximum, sum and weighted values of a query column are those of
  the keys read so far, and after the diagonal tile the quotient is the softmax average over every key up to the query.
-/
module

public import proofs.«01_k».proof.Proof.AttnPoint
public import proofs.«01_k».proof.Proof.Softmax

@[expose] public section

set_option maxRecDepth 16384

noncomputable section

namespace Cert.Proof.KernelIdeal

open Cert.KernelIdeal Cert.KernelIdeal.Gen
open Idealize.ShloMosaic Idealize.ShloMosaic.TcCoe
open Cert.Proof.Softmax

/-! ## Real numbers -/

section Real

variable (q k : Fin 8192 → Fin 128 → ℝ) (v : Fin 128 → Fin 8192 → ℝ)

/-- Feature `d` of half `c`. -/
abbrev feat (c : Fin 2) (d : Fin 64) : Fin 128 := ⟨c.val * 64 + d.val, by omega⟩

/-- The score of query `r` for key `i` in half `c`. -/
def sc (c : Fin 2) (r i : Fin 8192) : ℝ := ∑ d : Fin 64, k i (feat c d) * q r (feat c d)

/-- The masked score. -/
def msc (c : Fin 2) (r i : Fin 8192) : EReal := if i.val ≤ r.val then (sc q k c r i : EReal) else ⊥

/-- The weight of key `n`, zero past the last key. -/
def W (c : Fin 2) (r : Fin 8192) (n : ℕ) : ℝ := if h : n < 8192 then wt (msc q k c r ⟨n, h⟩) else 0

/-- The weighted value of key `n`. -/
def VW (c : Fin 2) (r : Fin 8192) (e : Fin 128) (n : ℕ) : ℝ :=
  if h : n < 8192 then v e ⟨n, h⟩ * wt (msc q k c r ⟨n, h⟩) else 0

/-- The softmax average of feature `e` of the values. -/
def avg (c : Fin 2) (r : Fin 8192) (e : Fin 128) : ℝ :=
  (∑ i : Fin 8192, v e i * wt (msc q k c r i)) / ∑ i : Fin 8192, wt (msc q k c r i)

theorem sum_tile (f : ℕ → ℝ) (n : ℕ) :
    ∑ i ∈ Finset.range (256 * (n + 1)), f i = ∑ i ∈ Finset.range (256 * n), f i + ∑ i : Fin 256, f (256 * n + i.val) := by
  rw [Nat.mul_succ, Finset.sum_range_add, ← Finset.sum_range (fun i => f (256 * n + i))]

theorem sum_upto (f : ℕ → ℝ) (n : ℕ) (hn : n ≤ 8192) (h : ∀ i, n ≤ i → f i = 0) :
    ∑ i ∈ Finset.range n, f i = ∑ i : Fin 8192, f i.val := by
  rw [← Finset.sum_range (fun i => f i)]
  refine Finset.sum_subset (Finset.range_mono hn) fun i _ hi => h i ?_
  simpa using hi

theorem W_past (c : Fin 2) (r : Fin 8192) (n : ℕ) (h : r.val < n) : W q k c r n = 0 := by
  unfold W msc
  split
  · rw [if_neg (by simpa using h), wt_bot]
  · rfl

theorem VW_past (c : Fin 2) (r : Fin 8192) (e : Fin 128) (n : ℕ) (h : r.val < n) : VW q k v c r e n = 0 := by
  unfold VW msc
  split
  · rw [if_neg (by simpa using h), wt_bot, mul_zero]
  · rfl

theorem sum_halves (f : Fin 128 → ℝ) : ∑ d, f d = ∑ d : Fin 64, f (feat 0 d) + ∑ d : Fin 64, f (feat 1 d) := by
  refine (Fin.sum_univ_add (a := 64) (b := 64) f).trans ?_
  refine congr (congrArg _ (Finset.sum_congr rfl fun d _ => congrArg f (Fin.ext ?_))) (Finset.sum_congr rfl fun d _ => congrArg f (Fin.ext ?_))
  · show d.val = 0 * 64 + d.val; omega
  · show 64 + d.val = 1 * 64 + d.val; omega

/-- A sum over all the features of which only one half counts. -/
theorem sum_half (c : Fin 2) (x y : Fin 128 → ℝ) :
    ∑ d : Fin 128, x d * (if d.val / 64 = c.val then y d else 0) = ∑ d : Fin 64, x (feat c d) * y (feat c d) := by
  rw [sum_halves]
  have h0 : ∀ d : Fin 64, (feat 0 d).val / 64 = 0 := fun d => by show (0 * 64 + d.val) / 64 = 0; omega
  have h1 : ∀ d : Fin 64, (feat 1 d).val / 64 = 1 := fun d => by show (1 * 64 + d.val) / 64 = 1; omega
  have hc : c = 0 ∨ c = 1 := by omega
  have t0 : ∀ y' : ℝ, (if (0 : ℕ) = (0 : Fin 2).val then y' else 0) = y' := fun _ => if_pos rfl
  have t1 : ∀ y' : ℝ, (if (1 : ℕ) = (1 : Fin 2).val then y' else 0) = y' := fun _ => if_pos rfl
  have f0 : ∀ y' : ℝ, (if (0 : ℕ) = (1 : Fin 2).val then y' else 0) = 0 := fun _ => if_neg (by decide)
  have f1 : ∀ y' : ℝ, (if (1 : ℕ) = (0 : Fin 2).val then y' else 0) = 0 := fun _ => if_neg (by decide)
  have s0 : ∀ (d : Fin 64) (z : ℕ) (y' : ℝ), (if (feat 0 d).val / 64 = z then y' else 0) = if 0 = z then y' else 0 := fun d z y' => by rw [h0 d]
  have s1 : ∀ (d : Fin 64) (z : ℕ) (y' : ℝ), (if (feat 1 d).val / 64 = z then y' else 0) = if 1 = z then y' else 0 := fun d z y' => by rw [h1 d]
  rcases hc with rfl | rfl
  · rw [Finset.sum_congr rfl fun d _ => by rw [s0, t0], Finset.sum_eq_zero (s := Finset.univ) (f := fun d : Fin 64 => x (feat 1 d) * _) fun d _ => by rw [s1, f1, mul_zero], add_zero]
  · rw [Finset.sum_eq_zero (s := Finset.univ) (f := fun d : Fin 64 => x (feat 0 d) * _) fun d _ => by rw [s0, f0, mul_zero], zero_add]
    exact Finset.sum_congr rfl fun d _ => by rw [s1, t1]

end Real

/-! ## The state -/

/-- The half of query column `j`. -/
abbrev half (j : Fin 512) : Fin 2 := ⟨j.val / 256, by omega⟩

/-- The query of column `j` of row tile `t1`. -/
abbrev qrow (t1 : Fin k0_t1_loop.trips) (j : Fin 512) : Fin 8192 := ⟨256 * t1.val + j.val % 256, by have := t1_lt t1; omega⟩

variable {q k : Fin 8192 → Fin 128 → ℝ} {v : Fin 128 → Fin 8192 → ℝ}
  {X4 X5 : Vec Ideal S1x8192x128 .bf16} {X6 : Vec Ideal S1x128x8192 .bf16}

theorem queryPair_at (h4 : ∀ r d, X4 (ix3 0 r d) = (q r d : EReal)) (t1 : Fin k0_t1_loop.trips) (d : Fin 128) (j : Fin 512) :
    queryPair t1 X4 (ix2 d j) = ((if d.val / 64 = (half j).val then q (qrow t1 j) d else 0 : ℝ) : EReal) := by
  have ht := t1_lt t1
  unfold queryPair
  by_cases hj : j.val < 256
  · rw [dif_pos (show ((ix2 d j : S128x512.Idx) 1).val < 256 from hj)]
    refine Eq.trans (b := k0_pay19 (rowTile t1 X4) (ix2 d ⟨j.val, hj⟩)) (congrArg _ (by funext a; fin_cases a <;> rfl)) ?_
    rw [pay19_at, rowTile_at t1 X4 ⟨j.val, hj⟩ d (by show 256 * t1.val + j.val < 8192; omega), h4]
    have e1 : (half j).val = 0 := by show j.val / 256 = 0; omega
    have e2 : (⟨256 * t1.val + j.val, by omega⟩ : Fin 8192) = qrow t1 j := Fin.ext (by show 256 * t1.val + j.val = 256 * t1.val + j.val % 256; omega)
    rw [e1, ← e2]
    by_cases hd : d.val < 64
    · rw [if_pos hd, if_pos (by omega)]
    · rw [if_neg hd, if_neg (by omega)]; rfl
  · rw [dif_neg (show ¬ ((ix2 d j : S128x512.Idx) 1).val < 256 from hj)]
    refine Eq.trans (b := k0_pay20 (rowTile t1 X4) (ix2 d ⟨j.val - 256, by omega⟩)) (congrArg _ (by funext a; fin_cases a <;> rfl)) ?_
    rw [pay20_at, rowTile_at t1 X4 ⟨j.val - 256, by omega⟩ d (by show 256 * t1.val + (j.val - 256) < 8192; omega), h4]
    have e1 : (half j).val = 1 := by show j.val / 256 = 1; omega
    have e2 : (⟨256 * t1.val + (j.val - 256), by omega⟩ : Fin 8192) = qrow t1 j := Fin.ext (by show 256 * t1.val + (j.val - 256) = 256 * t1.val + j.val % 256; omega)
    rw [e1, ← e2]
    by_cases hd : 64 ≤ d.val
    · rw [if_pos hd, if_pos (by omega)]
    · rw [if_neg hd, if_neg (by omega)]; rfl

/-- The score of a tile's key, as a real number. -/
theorem sco_at (h4 : ∀ r d, X4 (ix3 0 r d) = (q r d : EReal)) (t1 : Fin k0_t1_loop.trips) (K : Vec Ideal S1x256x128 .bf16)
    (r : Fin 256) (i : Fin 8192) (hK : ∀ d, K (ix3 0 r d) = (k i d : EReal)) (j : Fin 512) :
    sco K (queryPair t1 X4) r j = (sc q k (half j) (qrow t1 j) i : EReal) := by
  unfold sco sc
  rw [← sum_half (half j) (k i) (q (qrow t1 j)), ← coe_sum]
  refine Finset.sum_congr rfl fun d _ => ?_
  rw [hK, queryPair_at h4, ← EReal.coe_mul]

/-- The state before tile `n`. -/
theorem st_holds (h4 : ∀ r d, X4 (ix3 0 r d) = (q r d : EReal)) (h5 : ∀ r d, X5 (ix3 0 r d) = (k r d : EReal))
    (h6 : ∀ e r, X6 (ix3 0 e r) = (v e r : EReal)) (t1 : Fin k0_t1_loop.trips) (j : Fin 512) (n : ℕ) (hn : n ≤ t1.val) :
    Holds ((st t1 (queryPair t1 X4) X5 X6 n).1 (ix2 0 j)) ((st t1 (queryPair t1 X4) X5 X6 n).2.1 (ix2 0 j))
      (fun e : Fin 128 => (st t1 (queryPair t1 X4) X5 X6 n).2.2 (ix2 e j))
      (∑ i ∈ Finset.range (256 * n), W q k (half j) (qrow t1 j) i)
      (fun e => ∑ i ∈ Finset.range (256 * n), VW q k v (half j) (qrow t1 j) e i) := by
  have ht := t1_lt t1
  induction n with
  | zero =>
    exact Or.inl ⟨pay21_at j, pay22_at j, fun e => pay23_at e j, rfl, fun e => rfl⟩
  | succ n ih =>
    have ih := ih (by omega)
    have hlt : n < (k0_t2_loop t1).trips := by rw [t2_trips]; omega
    have hs := st_succ t1 (queryPair t1 X4) X5 X6 ⟨n, hlt⟩
    rw [show n + 1 = (⟨n, hlt⟩ : Fin (k0_t2_loop t1).trips).val + 1 from rfl, hs]
    show Holds (k0_pay8 (keyTile t1 X5 ⟨n, hlt⟩) (queryPair t1 X4) (st t1 (queryPair t1 X4) X5 X6 n).1 (ix2 0 j))
      (k0_pay7 (keyTile t1 X5 ⟨n, hlt⟩) (queryPair t1 X4) (st t1 (queryPair t1 X4) X5 X6 n).1 (st t1 (queryPair t1 X4) X5 X6 n).2.1 (ix2 0 j))
      (fun e => k0_pay24 (k0_pay9 (keyTile t1 X5 ⟨n, hlt⟩) (queryPair t1 X4) (st t1 (queryPair t1 X4) X5 X6 n).1 (valTile t1 X6 ⟨n, hlt⟩) (st t1 (queryPair t1 X4) X5 X6 n).2.2) (ix2 e j))
      _ _
    generalize st t1 (queryPair t1 X4) X5 X6 n = s at ih ⊢
    have hb : ∀ r : Fin 256, 256 * n + r.val < 8192 := fun r => by omega
    have hS : ∀ r : Fin 256, sco (keyTile t1 X5 ⟨n, hlt⟩) (queryPair t1 X4) r j
        = (sc q k (half j) (qrow t1 j) ⟨256 * n + r.val, hb r⟩ : EReal) := fun r =>
      sco_at h4 t1 _ r _ (fun d => (keyTile_at t1 X5 ⟨n, hlt⟩ r d (hb r)).trans (h5 _ d)) j
    have hM : ∀ r : Fin 256, (sc q k (half j) (qrow t1 j) ⟨256 * n + r.val, hb r⟩ : EReal)
        = msc q k (half j) (qrow t1 j) ⟨256 * n + r.val, hb r⟩ := fun r => by
      unfold msc; rw [if_pos (by show 256 * n + r.val ≤ 256 * t1.val + j.val % 256; omega)]
    have H := (Holds.step ih (fun r : Fin 256 => sco (keyTile t1 X5 ⟨n, hlt⟩) (queryPair t1 X4) r j)
      (fun e r => v e ⟨256 * n + r.val, hb r⟩) (fun r => by rw [hS]; exact EReal.coe_ne_top _) 0 (by rw [hS]; exact EReal.coe_ne_bot _)
      (m' := k0_pay8 (keyTile t1 X5 ⟨n, hlt⟩) (queryPair t1 X4) s.1 (ix2 0 j))
      (l' := k0_pay7 (keyTile t1 X5 ⟨n, hlt⟩) (queryPair t1 X4) s.1 s.2.1 (ix2 0 j))
      (a' := fun e => k0_pay24 (k0_pay9 (keyTile t1 X5 ⟨n, hlt⟩) (queryPair t1 X4) s.1 (valTile t1 X6 ⟨n, hlt⟩) s.2.2) (ix2 e j))
      (pay8_at _ _ _ j)
      (by rw [pay7_at, pay8_at, pay4_at]; simp only [pay3_at])
      (fun e => by
        rw [pay9_at, pay8_at, pay4_at]; simp only [pay3_at]
        refine congrArg _ (Finset.sum_congr rfl fun r _ => ?_)
        rw [valTile_at t1 X6 ⟨n, hlt⟩ e r (hb r), h6])).1
    have eW : ∀ r : Fin 256, W q k (half j) (qrow t1 j) (256 * n + r.val)
        = wt (sco (keyTile t1 X5 ⟨n, hlt⟩) (queryPair t1 X4) r j) := fun r => by
      unfold W; rw [dif_pos (hb r), hS, hM]
    have eV : ∀ (e : Fin 128) (r : Fin 256), VW q k v (half j) (qrow t1 j) e (256 * n + r.val)
        = v e ⟨256 * n + r.val, hb r⟩ * wt (sco (keyTile t1 X5 ⟨n, hlt⟩) (queryPair t1 X4) r j) := fun e r => by
      unfold VW; rw [dif_pos (hb r), hS, hM]
    have e1 : ∑ i ∈ Finset.range (256 * (n + 1)), W q k (half j) (qrow t1 j) i
        = ∑ i ∈ Finset.range (256 * n), W q k (half j) (qrow t1 j) i
          + ∑ r : Fin 256, wt (sco (keyTile t1 X5 ⟨n, hlt⟩) (queryPair t1 X4) r j) := by
      rw [sum_tile]; exact congrArg _ (Finset.sum_congr rfl fun r _ => eW r)
    have e2 : (fun e : Fin 128 => ∑ i ∈ Finset.range (256 * (n + 1)), VW q k v (half j) (qrow t1 j) e i)
        = fun e => ∑ i ∈ Finset.range (256 * n), VW q k v (half j) (qrow t1 j) e i
          + ∑ r : Fin 256, v e ⟨256 * n + r.val, hb r⟩ * wt (sco (keyTile t1 X5 ⟨n, hlt⟩) (queryPair t1 X4) r j) := by
      funext e
      rw [sum_tile]; exact congrArg _ (Finset.sum_congr rfl fun r _ => eV e r)
    show Holds _ _ _ (∑ i ∈ Finset.range (256 * (n + 1)), W q k (half j) (qrow t1 j) i)
      (fun e : Fin 128 => ∑ i ∈ Finset.range (256 * (n + 1)), VW q k v (half j) (qrow t1 j) e i)
    rw [e1, e2]
    exact H

/-- After the diagonal tile: the quotient is the average over every key up to the query. -/
theorem close_quot (h4 : ∀ r d, X4 (ix3 0 r d) = (q r d : EReal)) (h5 : ∀ r d, X5 (ix3 0 r d) = (k r d : EReal))
    (h6 : ∀ e r, X6 (ix3 0 e r) = (v e r : EReal)) (t1 : Fin k0_t1_loop.trips) (j : Fin 512) (e : Fin 128) (s : St Ideal)
    (hs : st t1 (queryPair t1 X4) X5 X6 t1.val = s) :
    k0_pay33 (k0_pay28 (rowTile t1 X5) (queryPair t1 X4) s.1) (k0_pay29 (rowTile t1 X5) (queryPair t1 X4) s.1) (diagVal t1 X6) s.2.2 (ix2 e j)
      * Ideal.div 1 (k0_pay31 (k0_pay30 (rowTile t1 X5) (queryPair t1 X4) s.1 s.2.1) (ix2 0 j))
      = (avg q k v (half j) (qrow t1 j) e : EReal) := by
  have ht := t1_lt t1
  have ih := st_holds h4 h5 h6 t1 j t1.val (le_refl _)
  rw [hs] at ih
  have hb : ∀ r : Fin 256, 256 * t1.val + r.val < 8192 := fun r => by omega
  have hS : ∀ r : Fin 256, msk (rowTile t1 X5) (queryPair t1 X4) r j
      = msc q k (half j) (qrow t1 j) ⟨256 * t1.val + r.val, hb r⟩ := fun r => by
    unfold msk msc
    rw [sco_at h4 t1 _ r _ (fun d => (rowTile_at t1 X5 r d (hb r)).trans (h5 _ d)) j]
    by_cases hr : r.val ≤ j.val % 256
    · rw [if_pos hr, if_pos (by show 256 * t1.val + r.val ≤ 256 * t1.val + j.val % 256; omega)]
    · rw [if_neg hr, if_neg (by show ¬ 256 * t1.val + r.val ≤ 256 * t1.val + j.val % 256; omega)]
  have hT : ∀ r : Fin 256, msk (rowTile t1 X5) (queryPair t1 X4) r j ≠ ⊤ := fun r => by
    rw [hS]; unfold msc; split
    · exact EReal.coe_ne_top _
    · exact bot_ne_top
  have H := Holds.step ih (fun r : Fin 256 => msk (rowTile t1 X5) (queryPair t1 X4) r j)
    (fun e r => v e ⟨256 * t1.val + r.val, hb r⟩) hT 0
    (by rw [hS]; unfold msc; rw [if_pos (by show 256 * t1.val + 0 ≤ 256 * t1.val + j.val % 256; omega)]; exact EReal.coe_ne_bot _)
    (m' := k0_pay27 (rowTile t1 X5) (queryPair t1 X4) s.1 (ix2 0 j))
    (l' := k0_pay31 (k0_pay30 (rowTile t1 X5) (queryPair t1 X4) s.1 s.2.1) (ix2 0 j))
    (a' := fun e => k0_pay33 (k0_pay28 (rowTile t1 X5) (queryPair t1 X4) s.1) (k0_pay29 (rowTile t1 X5) (queryPair t1 X4) s.1) (diagVal t1 X6) s.2.2 (ix2 e j))
    (by rw [pay27_at]; simp only [pay26_at])
    (by rw [pay31_at]; simp only [pay26_at])
    (fun e => by
      rw [pay33_at]; simp only [pay26_at]
      refine congrArg _ (Finset.sum_congr rfl fun r _ => ?_)
      rw [diagVal_at t1 X6 e r (hb r), h6])
  have eZ : ∑ i ∈ Finset.range (256 * t1.val), W q k (half j) (qrow t1 j) i
      + ∑ r : Fin 256, wt (msk (rowTile t1 X5) (queryPair t1 X4) r j) = ∑ i : Fin 8192, wt (msc q k (half j) (qrow t1 j) i) := by
    have h1 := sum_tile (W q k (half j) (qrow t1 j)) t1.val
    have h2 := sum_upto (W q k (half j) (qrow t1 j)) (256 * (t1.val + 1)) (by omega)
      (fun i hi => W_past q k _ _ i (by show 256 * t1.val + j.val % 256 < i; omega))
    rw [h2] at h1
    refine Eq.trans ?_ (h1.symm.trans ?_)
    · refine congrArg _ (Finset.sum_congr rfl fun r _ => ?_)
      unfold W; rw [dif_pos (hb r), hS]
    · refine Finset.sum_congr rfl fun i _ => ?_
      unfold W; rw [dif_pos i.isLt]
  have eN : ∑ i ∈ Finset.range (256 * t1.val), VW q k v (half j) (qrow t1 j) e i
      + ∑ r : Fin 256, v e ⟨256 * t1.val + r.val, hb r⟩ * wt (msk (rowTile t1 X5) (queryPair t1 X4) r j)
      = ∑ i : Fin 8192, v e i * wt (msc q k (half j) (qrow t1 j) i) := by
    have h1 := sum_tile (VW q k v (half j) (qrow t1 j) e) t1.val
    have h2 := sum_upto (VW q k v (half j) (qrow t1 j) e) (256 * (t1.val + 1)) (by omega)
      (fun i hi => VW_past q k v _ _ e i (by show 256 * t1.val + j.val % 256 < i; omega))
    rw [h2] at h1
    refine Eq.trans ?_ (h1.symm.trans ?_)
    · refine congrArg _ (Finset.sum_congr rfl fun r _ => ?_)
      unfold VW; rw [dif_pos (hb r), hS]
    · refine Finset.sum_congr rfl fun i _ => ?_
      unfold VW; rw [dif_pos i.isLt]
  have hpos : 0 < ∑ i : Fin 8192, wt (msc q k (half j) (qrow t1 j) i) := by
    refine Finset.sum_pos' (fun i _ => wt_nonneg) ⟨qrow t1 j, Finset.mem_univ _, ?_⟩
    unfold msc; rw [if_pos (le_refl _), wt_coe]; exact Real.exp_pos _
  rw [eZ] at H
  have R := Holds.quot H.1 H.2 hpos e
  refine R.trans ?_
  unfold avg
  rw [← eN]

/-- Tile `t1` of the output at row `r`, feature `e`. -/
theorem outTile_at (h4 : ∀ r d, X4 (ix3 0 r d) = (q r d : EReal)) (h5 : ∀ r d, X5 (ix3 0 r d) = (k r d : EReal))
    (h6 : ∀ e r, X6 (ix3 0 e r) = (v e r : EReal)) (X2 : Vec Ideal S4x64 .f32) (X3 : Vec Ideal S1x128 .f32) (X7 : Vec Ideal S1x8192x128 .bf16)
    (t1 : Fin k0_t1_loop.trips) (r : Fin 256) (e : Fin 128) (R : Fin 8192) (hR : R.val = 256 * t1.val + r.val)
    (D : Fin 128 → EReal) (hD : ∀ e, D e = (avg q k v 0 R e : EReal) - lamK X2 * (avg q k v 1 R e : EReal)) :
    outTile X2 X3 X4 X5 X6 X7 t1 (ix3 0 r e)
      = D e * Ideal.rsqrt (Ideal.div (∑ e : Fin 128, D e * D e) (Ideal.ofBits .f32 0x43000000#32) + Ideal.ofBits .f32 0x358637BD#32)
        * X3 (ix2 0 e) * X7 (ix3 0 R e) := by
  have ht := t1_lt t1
  obtain ⟨R, hlt⟩ := R
  dsimp only at hR
  subst hR
  unfold outTile closeTile
  rw [pay2_at, rowTile_at t1 X7 r e hlt]
  have key : ∀ e : Fin 128, diffK (k0_pay31 (k0_pay30 (rowTile t1 X5) (queryPair t1 X4) (st t1 (queryPair t1 X4) X5 X6 (k0_t2_loop t1).trips).1 (st t1 (queryPair t1 X4) X5 X6 (k0_t2_loop t1).trips).2.1))
      (k0_pay33 (k0_pay28 (rowTile t1 X5) (queryPair t1 X4) (st t1 (queryPair t1 X4) X5 X6 (k0_t2_loop t1).trips).1) (k0_pay29 (rowTile t1 X5) (queryPair t1 X4) (st t1 (queryPair t1 X4) X5 X6 (k0_t2_loop t1).trips).1) (diagVal t1 X6) (st t1 (queryPair t1 X4) X5 X6 (k0_t2_loop t1).trips).2.2)
      X2 r e = D e := fun e => by
    have hs : st t1 (queryPair t1 X4) X5 X6 t1.val = st t1 (queryPair t1 X4) X5 X6 (k0_t2_loop t1).trips := by rw [t2_trips]
    unfold diffK
    rw [bits_one, close_quot h4 h5 h6 t1 ⟨r.val, by omega⟩ e _ hs, close_quot h4 h5 h6 t1 ⟨256 + r.val, by omega⟩ e _ hs, hD]
    have a1 : half ⟨r.val, by omega⟩ = 0 := Fin.ext (by show r.val / 256 = 0; omega)
    have a2 : half ⟨256 + r.val, by omega⟩ = 1 := Fin.ext (by show (256 + r.val) / 256 = 1; omega)
    have b1 : qrow t1 ⟨r.val, by omega⟩ = ⟨256 * t1.val + r.val, hlt⟩ := Fin.ext (by show 256 * t1.val + r.val % 256 = 256 * t1.val + r.val; omega)
    have b2 : qrow t1 ⟨256 + r.val, by omega⟩ = ⟨256 * t1.val + r.val, hlt⟩ := Fin.ext (by show 256 * t1.val + (256 + r.val) % 256 = 256 * t1.val + r.val; omega)
    rw [a1, a2, b1, b2]
  simp only [key]

end Cert.Proof.KernelIdeal

end
-- ==== Proof.AttnRef.lean ====
/- What the attention's reference computes, in named steps, each read at one index. -/
module

public import proofs.«01_k».proof.Proof.Gen.ReferenceIdeal.Run
public import proofs.«01_k».proof.Proof.Softmax
public import Idealize.ShloMosaic.Lib.Pipeline.ValueKit

@[expose] public section

set_option maxRecDepth 16384

noncomputable section

namespace Cert.Proof.AttnRef

open Cert.ReferenceIdeal Cert.ReferenceIdeal.Gen
open Idealize.ShloMosaic Idealize.ShloMosaic.TcCoe

/-- The masked scores, by sequence, head, half, query and key. -/
def scores (A5 : FVec Ideal S32768x10240 .bf16) : FVec Ideal S4x8x2x8192x8192 .f32 :=
  select (broadcastInDim S4x8x2x8192x8192 ![3, 4] bcast_S8192x8192_S4x8x2x8192x8192_3_4 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) (Host.dotGeneral dot_S4x8192x8x2x64_S4x8192x8x2x64_S4x8x2x8192x8192_4_4_1_1_023_023 none (shapeCast _ (extractStridedSlice S4x8192x1024 ![0, 0, 0] (shapeCast _ (extf .f32 A5 bitsLt_bf16_f32) shapeCasts_S32768x10240_S4x8192x10240) slices_S4x8192x10240_S4x8192x1024_0_0_0) shapeCasts_S4x8192x1024_S4x8192x8x2x64) (shapeCast _ (extractStridedSlice S4x8192x1024 ![0, 0, 1024] (shapeCast _ (extf .f32 A5 bitsLt_bf16_f32) shapeCasts_S32768x10240_S4x8192x10240) slices_S4x8192x10240_S4x8192x1024_0_0_1024) shapeCasts_S4x8192x1024_S4x8192x8x2x64)) (broadcastInDim S4x8x2x8192x8192 ![] bcast_S_S4x8x2x8192x8192 (id (constant S_ .f32 0xFF800000#32)))

/-- The largest score of each query, over the keys. -/
def rowMax (A5 : FVec Ideal S32768x10240 .bf16) : FVec Ideal S4x8x2x8192 .f32 :=
  Host.reduce FloatOps.maximumf (scores A5) (constant S_ .f32 0xFF800000#32) reducesTo_S4x8x2x8192x8192_S4x8x2x8192_d4 h_S_

/-- The same, compared with the reduction's start once more. -/
def top (A5 : FVec Ideal S32768x10240 .bf16) : FVec Ideal S4x8x2x8192 .f32 :=
  maximumf (broadcastInDim S4x8x2x8192 ![] bcast_S_S4x8x2x8192 (constant S_ .f32 0xFF800000#32)) (rowMax A5)

/-- The exponentials of the scores less the largest. -/
def weights (A5 : FVec Ideal S32768x10240 .bf16) : FVec Ideal S4x8x2x8192x8192 .f32 :=
  Host.exp (subf (scores A5) (broadcastInDim S4x8x2x8192x8192 ![0, 1, 2, 3, 4] bcast_S4x8x2x8192x1_S4x8x2x8192x8192_0_1_2_3_4 (broadcastInDim S4x8x2x8192x1 ![0, 1, 2, 3] bcast_S4x8x2x8192_S4x8x2x8192x1_0_1_2_3 (top A5))))

/-- The softmax over the keys. -/
def soft (A5 : FVec Ideal S32768x10240 .bf16) : FVec Ideal S4x8x2x8192x8192 .f32 :=
  Host.divf (weights A5) (broadcastInDim S4x8x2x8192x8192 ![0, 1, 2, 3, 4] bcast_S4x8x2x8192x1_S4x8x2x8192x8192_0_1_2_3_4 (broadcastInDim S4x8x2x8192x1 ![0, 1, 2, 3] bcast_S4x8x2x8192_S4x8x2x8192x1_0_1_2_3 (Host.reduceAdd (weights A5) (constant S_ .f32 0x00000000#32) reducesTo_S4x8x2x8192x8192_S4x8x2x8192_d4 h_S_)))

/-- The first half of the softmax. -/
def softL (A5 : FVec Ideal S32768x10240 .bf16) : FVec Ideal S4x8x8192x8192 .f32 :=
  shapeCast S4x8x8192x8192 (extractStridedSlice S4x8x1x8192x8192 ![0, 0, 0, 0, 0] (soft A5) slices_S4x8x2x8192x8192_S4x8x1x8192x8192_0_0_0_0_0) shapeCasts_S4x8x1x8192x8192_S4x8x8192x8192

/-- The second half of the softmax. -/
def softR (A5 : FVec Ideal S32768x10240 .bf16) : FVec Ideal S4x8x8192x8192 .f32 :=
  shapeCast _ (extractStridedSlice S4x8x1x8192x8192 ![0, 0, 1, 0, 0] (soft A5) slices_S4x8x2x8192x8192_S4x8x1x8192x8192_0_0_1_0_0) shapeCasts_S4x8x1x8192x8192_S4x8x8192x8192

/-- The learned weight of the second softmax. -/
def lamVec (A0 A1 A2 A3 : FVec Ideal S1x64 .f32) : FVec Ideal S_ .f32 :=
  addf (subf (Host.exp (Host.reduceAdd (mulf (shapeCast _ A0 shapeCasts_S1x64_S64) (shapeCast _ A1 shapeCasts_S1x64_S64)) (constant S_ .f32 0x00000000#32) reducesTo_S64_S_d0 h_S_)) (Host.exp (Host.reduceAdd (mulf (shapeCast _ A2 shapeCasts_S1x64_S64) (shapeCast _ A3 shapeCasts_S1x64_S64)) (constant S_ .f32 0x00000000#32) reducesTo_S64_S_d0 h_S_))) (constant S_ .f32 0x3E4CCCCD#32)

/-- The first half's softmax less lambda times the second's. -/
def mix (A0 A1 A2 A3 : FVec Ideal S1x64 .f32) (A5 : FVec Ideal S32768x10240 .bf16) : FVec Ideal S4x8x8192x8192 .f32 :=
  subf (softL A5) (mulf (broadcastInDim S4x8x8192x8192 ![] bcast_S_S4x8x8192x8192 (lamVec A0 A1 A2 A3)) (softR A5))

/-- The values averaged under those weights. -/
def attn (A0 A1 A2 A3 : FVec Ideal S1x64 .f32) (A5 : FVec Ideal S32768x10240 .bf16) (A6 : FVec Ideal S4x1024x8192 .bf16) : FVec Ideal S4x8192x8x128 .f32 :=
  transpose S4x8192x8x128 [0, 3, 1, 2] (Host.dotGeneral dot_S4x8x128x8192_S4x8x8192x8192_S4x8x128x8192_3_3_2_2_01_01 none (shapeCast _ (extf .f32 A6 bitsLt_bf16_f32) shapeCasts_S4x1024x8192_S4x8x128x8192) (mix A0 A1 A2 A3 A5)) transposes_S4x8x128x8192_S4x8192x8x128_0_3_1_2

/-- The result: the average normalized over its 128 features, times the gain and 0.8, times the gate. -/
def out (A0 A1 A2 A3 : FVec Ideal S1x64 .f32) (A4 : FVec Ideal S1x128 .f32) (A5 : FVec Ideal S32768x10240 .bf16) (A6 : FVec Ideal S4x1024x8192 .bf16) : FVec Ideal S4x8192x1024 .bf16 :=
  truncf .bf16 (mulf (shapeCast _ (mulf (mulf (mulf (attn A0 A1 A2 A3 A5 A6) (broadcastInDim S4x8192x8x128 ![0, 1, 2, 3] bcast_S4x8192x8x1_S4x8192x8x128_0_1_2_3 (Host.rsqrt (addf (Host.divf (broadcastInDim S4x8192x8x1 ![0, 1, 2] bcast_S4x8192x8_S4x8192x8x1_0_1_2 (Host.reduceAdd (mulf (attn A0 A1 A2 A3 A5 A6) (attn A0 A1 A2 A3 A5 A6)) (constant S_ .f32 0x00000000#32) reducesTo_S4x8192x8x128_S4x8192x8_d3 h_S_)) (broadcastInDim S4x8192x8x1 ![] bcast_S_S4x8192x8x1 (constant S_ .f32 0x43000000#32))) (broadcastInDim S4x8192x8x1 ![] bcast_S_S4x8192x8x1 (constant S_ .f32 0x358637BD#32)))))) (broadcastInDim S4x8192x8x128 ![0, 1, 2, 3] bcast_S1x1x1x128_S4x8192x8x128_0_1_2_3 (broadcastInDim S1x1x1x128 ![3] bcast_S128_S1x1x1x128_3 (shapeCast _ A4 shapeCasts_S1x128_S128)))) (broadcastInDim S4x8192x8x128 ![] bcast_S_S4x8192x8x128 (constant S_ .f32 0x3F4CCCCD#32))) shapeCasts_S4x8192x8x128_S4x8192x1024) (extractStridedSlice S4x8192x1024 ![0, 0, 3072] (shapeCast _ (extf .f32 A5 bitsLt_bf16_f32) shapeCasts_S32768x10240_S4x8192x10240) slices_S4x8192x10240_S4x8192x1024_0_0_3072)) bitsLt_bf16_f32

theorem res_eq (m : (ℓ : Loc nD τ sig) → Buf (Elt Ideal) ℓ) (c : Dev nD) : Cert.ReferenceIdeal.Value.res_main_v67 m c
    = out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) := by
  unfold Cert.ReferenceIdeal.Value.res_main_v67
  rfl

variable (A0 A1 A2 A3 : FVec Ideal S1x64 .f32) (A4 : FVec Ideal S1x128 .f32) (A5 : FVec Ideal S32768x10240 .bf16) (A6 : FVec Ideal S4x1024x8192 .bf16)

/-- The score of query `q` for key `k`, before masking. -/
def dot (i : Fin 4) (h : Fin 8) (c : Fin 2) (q k : Fin 8192) : EReal :=
  ∑ d : Fin 64, A5 (ix2 ⟨i.val * 8192 + q.val, by omega⟩ ⟨h.val * 128 + c.val * 64 + d.val, by omega⟩)
    * A5 (ix2 ⟨i.val * 8192 + k.val, by omega⟩ ⟨1024 + (h.val * 128 + c.val * 64 + d.val), by omega⟩)

theorem scores_at (i : Fin 4) (h : Fin 8) (c : Fin 2) (q k : Fin 8192) : scores A5 (ix5 i h c q k)
    = Scalar.select (IntOp.cmpi CmpIPredicate.sle (BitVec.ofNat 32 k.val) (BitVec.ofNat 32 q.val)) (dot A5 i h c q k)
      (Ideal.ofBits .f32 0xFF800000#32) := by
  refine Eq.trans ?_ (show Scalar.select (IntOp.cmpi CmpIPredicate.sle (BitVec.ofNat 32 k.val) (BitVec.ofNat 32 q.val)) (dot A5 i h c q k)
      ((id (constant (F := Ideal) S_ .f32 0xFF800000#32)) ix0) = _ from rfl)
  pointwise [scores, dot]

theorem rowMax_at (i : Fin 4) (h : Fin 8) (c : Fin 2) (q : Fin 8192) : rowMax A5 (ix4 i h c q)
    = Finset.univ.fold max (Ideal.ofBits .f32 0xFF800000#32) (fun k => scores A5 (ix5 i h c q k)) := by
  pointwise [rowMax]

theorem max_at (B : FVec Ideal S4x8x2x8192 .f32) (i : Fin 4) (h : Fin 8) (c : Fin 2) (q : Fin 8192) :
    maximumf (broadcastInDim S4x8x2x8192 ![] bcast_S_S4x8x2x8192 (constant S_ .f32 0xFF800000#32)) B (ix4 i h c q)
      = max (Ideal.ofBits .f32 0xFF800000#32) (B (ix4 i h c q)) := by
  pointwise

theorem top_at (i : Fin 4) (h : Fin 8) (c : Fin 2) (q : Fin 8192) : top A5 (ix4 i h c q)
    = max (Ideal.ofBits .f32 0xFF800000#32) (rowMax A5 (ix4 i h c q)) := by
  unfold top; exact max_at (rowMax A5) i h c q

theorem weights_at (i : Fin 4) (h : Fin 8) (c : Fin 2) (q k : Fin 8192) : weights A5 (ix5 i h c q k)
    = Ideal.exp (scores A5 (ix5 i h c q k) - top A5 (ix4 i h c q)) := by
  pointwise [weights]

theorem soft_at (i : Fin 4) (h : Fin 8) (c : Fin 2) (q k : Fin 8192) : soft A5 (ix5 i h c q k)
    = Ideal.div (weights A5 (ix5 i h c q k)) (∑ k, weights A5 (ix5 i h c q k)) := by
  pointwise [soft]

/-- The learned weight of the second softmax, as a number. -/
def lam : EReal := Ideal.exp (∑ d : Fin 64, A0 (ix2 0 d) * A1 (ix2 0 d)) - Ideal.exp (∑ d : Fin 64, A2 (ix2 0 d) * A3 (ix2 0 d))
  + Ideal.ofBits .f32 0x3E4CCCCD#32

theorem lamVec_at : lamVec A0 A1 A2 A3 ix0 = lam A0 A1 A2 A3 := by
  pointwise [lamVec, lam]

theorem softL_at (i : Fin 4) (h : Fin 8) (q k : Fin 8192) : softL A5 (ix4 i h q k) = soft A5 (ix5 i h 0 q k) := by
  pointwise [softL]

theorem softR_at (i : Fin 4) (h : Fin 8) (q k : Fin 8192) : softR A5 (ix4 i h q k) = soft A5 (ix5 i h 1 q k) := by
  pointwise [softR]

theorem comb_at (L R : FVec Ideal S4x8x8192x8192 .f32) (l : FVec Ideal S_ .f32) (i : Fin 4) (h : Fin 8) (q k : Fin 8192) :
    subf L (mulf (broadcastInDim S4x8x8192x8192 ![] bcast_S_S4x8x8192x8192 l) R) (ix4 i h q k)
      = L (ix4 i h q k) - l ix0 * R (ix4 i h q k) := by
  pointwise

theorem mix_at (i : Fin 4) (h : Fin 8) (q k : Fin 8192) : mix A0 A1 A2 A3 A5 (ix4 i h q k)
    = softL A5 (ix4 i h q k) - lamVec A0 A1 A2 A3 ix0 * softR A5 (ix4 i h q k) := by
  unfold mix; exact comb_at (softL A5) (softR A5) (lamVec A0 A1 A2 A3) i h q k

theorem attn_at (i : Fin 4) (q : Fin 8192) (h : Fin 8) (e : Fin 128) : attn A0 A1 A2 A3 A5 A6 (ix4 i q h e)
    = ∑ k, A6 (ix3 i ⟨h.val * 128 + e.val, by omega⟩ k) * mix A0 A1 A2 A3 A5 (ix4 i h q k) := by
  pointwise [attn]

theorem out_at (i : Fin 4) (q : Fin 8192) (h : Fin 8) (e : Fin 128) :
    out A0 A1 A2 A3 A4 A5 A6 (ix3 i q ⟨h.val * 128 + e.val, by omega⟩)
    = attn A0 A1 A2 A3 A5 A6 (ix4 i q h e)
      * Ideal.rsqrt (Ideal.div (∑ e, attn A0 A1 A2 A3 A5 A6 (ix4 i q h e) * attn A0 A1 A2 A3 A5 A6 (ix4 i q h e)) (Ideal.ofBits .f32 0x43000000#32)
        + Ideal.ofBits .f32 0x358637BD#32)
      * A4 (ix2 0 e) * Ideal.ofBits .f32 0x3F4CCCCD#32
      * A5 (ix2 ⟨i.val * 8192 + q.val, by omega⟩ ⟨3072 + (h.val * 128 + e.val), by omega⟩) := by
  pointwise [out]

end Cert.Proof.AttnRef

end
-- ==== Proof.AttnMath.lean ====
/- The attention's reference over finite operands: the same softmax averages as the kernel's. -/
module

public import proofs.«01_k».proof.Proof.AttnState
public import proofs.«01_k».proof.Proof.AttnRef

@[expose] public section

set_option maxRecDepth 16384

noncomputable section

namespace Cert.Proof.AttnRef

open Cert.ReferenceIdeal Cert.ReferenceIdeal.Gen
open Idealize.ShloMosaic Idealize.ShloMosaic.TcCoe
open Cert.Proof.Softmax
open Cert.Proof.KernelIdeal (feat sc msc avg bits_bot sel_le)

variable {A0 A1 A2 A3 : FVec Ideal S1x64 .f32} {A4 : FVec Ideal S1x128 .f32} {A5 : FVec Ideal S32768x10240 .bf16} {A6 : FVec Ideal S4x1024x8192 .bf16}

theorem ieee_real (e n : ℕ) {w : ℕ} (b : BitVec w) (hb : (b.extractLsb' n e).toNat ≠ 2 ^ e - 1) : ∃ r : ℝ, Ideal.ieee e n b = r := by
  unfold Ideal.ieee
  dsimp only
  rw [if_neg hb]
  split <;> exact ⟨_, rfl⟩

/-- The literal 0.2 the lambda adds. -/
theorem bits_fifth : ∃ r : ℝ, Ideal.ofBits .f32 0x3E4CCCCD#32 = r := ieee_real 8 23 0x3E4CCCCD#32 (by decide)

/-- Lambda is a real number. -/
theorem lam_real (h0 : ∀ d, ∃ r : ℝ, A0 (ix2 0 d) = r) (h1 : ∀ d, ∃ r : ℝ, A1 (ix2 0 d) = r) (h2 : ∀ d, ∃ r : ℝ, A2 (ix2 0 d) = r)
    (h3 : ∀ d, ∃ r : ℝ, A3 (ix2 0 d) = r) : ∃ L : ℝ, lam A0 A1 A2 A3 = L := by
  choose a0 h0 using h0
  choose a1 h1 using h1
  choose a2 h2 using h2
  choose a3 h3 using h3
  obtain ⟨b, hb⟩ := bits_fifth
  unfold lam
  refine ⟨Real.exp (∑ d, a0 d * a1 d) - Real.exp (∑ d, a2 d * a3 d) + b, ?_⟩
  have e1 : ∑ d : Fin 64, A0 (ix2 0 d) * A1 (ix2 0 d) = ((∑ d, a0 d * a1 d : ℝ) : EReal) := by
    rw [← coe_sum]; exact Finset.sum_congr rfl fun d _ => by rw [h0, h1, ← EReal.coe_mul]
  have e2 : ∑ d : Fin 64, A2 (ix2 0 d) * A3 (ix2 0 d) = ((∑ d, a2 d * a3 d : ℝ) : EReal) := by
    rw [← coe_sum]; exact Finset.sum_congr rfl fun d _ => by rw [h2, h3, ← EReal.coe_mul]
  rw [hb, e1, e2]
  rfl

variable {q k : Fin 8192 → Fin 128 → ℝ} {v : Fin 128 → Fin 8192 → ℝ} {i : Fin 4} {h : Fin 8}

theorem dot_real (hq : ∀ (r : Fin 8192) (d : Fin 128), A5 (ix2 ⟨i.val * 8192 + r.val, by omega⟩ ⟨h.val * 128 + d.val, by omega⟩) = (q r d : EReal))
    (hk : ∀ (r : Fin 8192) (d : Fin 128), A5 (ix2 ⟨i.val * 8192 + r.val, by omega⟩ ⟨1024 + (h.val * 128 + d.val), by omega⟩) = (k r d : EReal))
    (c : Fin 2) (r s : Fin 8192) : dot A5 i h c r s = (sc q k c r s : EReal) := by
  unfold dot sc
  rw [← coe_sum]
  refine Finset.sum_congr rfl fun d _ => ?_
  have e1 : (⟨h.val * 128 + c.val * 64 + d.val, by omega⟩ : Fin 10240) = ⟨h.val * 128 + (feat c d).val, by omega⟩ :=
    Fin.ext (by show h.val * 128 + c.val * 64 + d.val = h.val * 128 + (c.val * 64 + d.val); omega)
  have e2 : (⟨1024 + (h.val * 128 + c.val * 64 + d.val), by omega⟩ : Fin 10240) = ⟨1024 + (h.val * 128 + (feat c d).val), by omega⟩ :=
    Fin.ext (by show 1024 + (h.val * 128 + c.val * 64 + d.val) = 1024 + (h.val * 128 + (c.val * 64 + d.val)); omega)
  rw [e1, e2, hq, hk, ← EReal.coe_mul, mul_comm]

theorem scores_real (hq : ∀ (r : Fin 8192) (d : Fin 128), A5 (ix2 ⟨i.val * 8192 + r.val, by omega⟩ ⟨h.val * 128 + d.val, by omega⟩) = (q r d : EReal))
    (hk : ∀ (r : Fin 8192) (d : Fin 128), A5 (ix2 ⟨i.val * 8192 + r.val, by omega⟩ ⟨1024 + (h.val * 128 + d.val), by omega⟩) = (k r d : EReal))
    (c : Fin 2) (r s : Fin 8192) : scores A5 (ix5 i h c r s) = msc q k c r s := by
  rw [scores_at, sel_le _ _ (by omega) (by omega), dot_real hq hk, bits_bot]
  rfl

theorem soft_real (hq : ∀ (r : Fin 8192) (d : Fin 128), A5 (ix2 ⟨i.val * 8192 + r.val, by omega⟩ ⟨h.val * 128 + d.val, by omega⟩) = (q r d : EReal))
    (hk : ∀ (r : Fin 8192) (d : Fin 128), A5 (ix2 ⟨i.val * 8192 + r.val, by omega⟩ ⟨1024 + (h.val * 128 + d.val), by omega⟩) = (k r d : EReal))
    (c : Fin 2) (r s : Fin 8192) :
    soft A5 (ix5 i h c r s) = ((wt (msc q k c r s) / ∑ s, wt (msc q k c r s) : ℝ) : EReal) := by
  rw [soft_at]
  simp only [weights_at, scores_real hq hk]
  refine weight (msc q k c r) (fun s => ?_) r ?_ ?_ rfl s
  · unfold msc; split
    · exact EReal.coe_ne_top _
    · exact bot_ne_top
  · unfold msc; rw [if_pos (le_refl _)]; exact EReal.coe_ne_bot _
  · rw [top_at, rowMax_at, bits_bot, max_eq_right bot_le]
    simp only [scores_real hq hk]

theorem attn_real (hq : ∀ (r : Fin 8192) (d : Fin 128), A5 (ix2 ⟨i.val * 8192 + r.val, by omega⟩ ⟨h.val * 128 + d.val, by omega⟩) = (q r d : EReal))
    (hk : ∀ (r : Fin 8192) (d : Fin 128), A5 (ix2 ⟨i.val * 8192 + r.val, by omega⟩ ⟨1024 + (h.val * 128 + d.val), by omega⟩) = (k r d : EReal))
    (hv : ∀ (e : Fin 128) (r : Fin 8192), A6 (ix3 i ⟨h.val * 128 + e.val, by omega⟩ r) = (v e r : EReal))
    {L : ℝ} (hL : lam A0 A1 A2 A3 = L) (r : Fin 8192) (e : Fin 128) :
    attn A0 A1 A2 A3 A5 A6 (ix4 i r h e) = (avg q k v 0 r e : EReal) - lam A0 A1 A2 A3 * (avg q k v 1 r e : EReal) := by
  rw [attn_at, hL, ← EReal.coe_mul, ← EReal.coe_sub]
  have hm : ∀ s, A6 (ix3 i ⟨h.val * 128 + e.val, by omega⟩ s) * mix A0 A1 A2 A3 A5 (ix4 i h r s)
      = ((v e s * (wt (msc q k 0 r s) / ∑ s, wt (msc q k 0 r s) - L * (wt (msc q k 1 r s) / ∑ s, wt (msc q k 1 r s))) : ℝ) : EReal) := fun s => by
    rw [hv, mix_at, softL_at, softR_at, lamVec_at, soft_real hq hk, soft_real hq hk, hL]
    rfl
  rw [Finset.sum_congr rfl fun s _ => hm s, coe_sum]
  refine congrArg _ ?_
  unfold avg
  rw [Finset.sum_div, Finset.sum_div, Finset.mul_sum, ← Finset.sum_sub_distrib]
  exact Finset.sum_congr rfl fun s _ => by ring

end Cert.Proof.AttnRef

end
-- ==== Proof.AttnValue.lean ====
/- The value of the attention call: on finite operands its result array is the reference's term. -/
module

public import proofs.«01_k».proof.Proof.AttnBlocks
public import proofs.«01_k».proof.Proof.AttnMath
public import proofs.«01_k».proof.Proof.Finite

@[expose] public section

set_option maxRecDepth 16384

noncomputable section

namespace Cert.Proof.KernelIdeal

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-! The argument arrays. -/

abbrev A0 : FVec Ideal Cert.ReferenceIdeal.S1x64 .f32 := m ((c : Thread nD τ).loc main_arg0)
abbrev A1 : FVec Ideal Cert.ReferenceIdeal.S1x64 .f32 := m ((c : Thread nD τ).loc main_arg1)
abbrev A2 : FVec Ideal Cert.ReferenceIdeal.S1x64 .f32 := m ((c : Thread nD τ).loc main_arg2)
abbrev A3 : FVec Ideal Cert.ReferenceIdeal.S1x64 .f32 := m ((c : Thread nD τ).loc main_arg3)
abbrev A4 : FVec Ideal Cert.ReferenceIdeal.S1x128 .f32 := m ((c : Thread nD τ).loc main_arg4)
abbrev A5 : FVec Ideal Cert.ReferenceIdeal.S32768x10240 .bf16 := m ((c : Thread nD τ).loc main_arg5)
abbrev A6 : FVec Ideal Cert.ReferenceIdeal.S4x1024x8192 .bf16 := m ((c : Thread nD τ).loc main_arg6)

/-- The reference's term of the kernel's argument arrays. -/
abbrev refOf : FVec Ideal Cert.ReferenceIdeal.S4x8192x1024 .bf16 :=
  AttnRef.out (A0 m c) (A1 m c) (A2 m c) (A3 m c) (A4 m c) (A5 m c) (A6 m c)

/-- The finite operands: the lambda vectors, the queries and keys, the values. -/
structure FiniteOps : Prop where
  f0 : ∀ d, ∃ r : ℝ, A0 m c (ix2 0 d) = r
  f1 : ∀ d, ∃ r : ℝ, A1 m c (ix2 0 d) = r
  f2 : ∀ d, ∃ r : ℝ, A2 m c (ix2 0 d) = r
  f3 : ∀ d, ∃ r : ℝ, A3 m c (ix2 0 d) = r
  f5 : ∀ (R : Fin 32768) (n : Fin 2048), ∃ r : ℝ, A5 m c (ix2 R ⟨n.val, by omega⟩) = r
  f6 : ∀ (i : Fin 4) (e : Fin 1024) (s : Fin 8192), ∃ r : ℝ, A6 m c (ix3 i e s) = r

theorem lam_eq (t : Fin cfg0.N) : lamK (iblk m c 0 t) = AttnRef.lam (A0 m c) (A1 m c) (A2 m c) (A3 m c) := by
  unfold lamK AttnRef.lam
  simp only [blk0, lams_0, lams_1, lams_2, lams_3]

theorem outBlock_at (X2 : Vec Ideal S4x64 .f32) (X3 : Vec Ideal S1x128 .f32) (X4 X5 : Vec Ideal S1x8192x128 .bf16) (X6 : Vec Ideal S1x128x8192 .bf16)
    (X7 : Vec Ideal S1x8192x128 .bf16) (r : Fin 8192) (e : Fin 128) : outBlock X2 X3 X4 X5 X6 X7 (ix3 0 r e)
      = outTile X2 X3 X4 X5 X6 X7 ⟨r.val / 256, by rw [t1_trips]; omega⟩ (ix3 0 ⟨r.val % 256, Nat.mod_lt _ (by decide)⟩ e) := by
  unfold outBlock
  refine congrArg _ ?_
  funext a; fin_cases a <;> rfl

/-- The output block at one index is the reference's term at the array index it sits at. -/
theorem point (hf : FiniteOps m c) (t : Fin cfg0.N) (r : Fin 8192) (e : Fin 128) :
    outAt m c t (ix3 0 r e) = refOf m c (((cfg0.win 6).blk t).view.emb (ix3 0 r e)) := by
  rw [emb_at t r e (refOf m c)]
  have hh := (headOf t).isLt
  have hi := (seqOf t).isLt
  choose q hq using fun (r : Fin 8192) (d : Fin 128) => hf.f5 ⟨(seqOf t).val * 8192 + r.val, by omega⟩ ⟨(headOf t).val * 128 + d.val, by omega⟩
  choose k hk using fun (r : Fin 8192) (d : Fin 128) => hf.f5 ⟨(seqOf t).val * 8192 + r.val, by omega⟩ ⟨1024 + ((headOf t).val * 128 + d.val), by omega⟩
  choose v hv using fun (e : Fin 128) (s : Fin 8192) => hf.f6 (seqOf t) ⟨(headOf t).val * 128 + e.val, by omega⟩ s
  obtain ⟨L, hL⟩ := AttnRef.lam_real hf.f0 hf.f1 hf.f2 hf.f3
  unfold outAt
  rw [outBlock_at, outTile_at (q := q) (k := k) (v := v) (fun r d => (blk2 m c t r d).trans (hq r d)) (fun r d => (blk3 m c t r d).trans (hk r d))
    (fun e s => (blk4 m c t e s).trans (hv e s)) _ _ _ _ _ e r (by show r.val = 256 * (r.val / 256) + r.val % 256; omega)
    (fun e => AttnRef.attn (A0 m c) (A1 m c) (A2 m c) (A3 m c) (A5 m c) (A6 m c) (ix4 (seqOf t) r (headOf t) e))
    (fun e => by rw [lam_eq]; exact AttnRef.attn_real hq hk hv hL r e)]
  refine Eq.trans ?_ (AttnRef.out_at (A0 m c) (A1 m c) (A2 m c) (A3 m c) (A4 m c) (A5 m c) (A6 m c) (seqOf t) r (headOf t) e).symm
  rw [blk1, gain_at, blk5, ← mul_assoc]

theorem point' (hf : FiniteOps m c) (t : Fin cfg0.N) (y : S1x8192x128.Idx) :
    outAt m c t y = refOf m c (((cfg0.win 6).blk t).view.emb y) := by
  have e : y = ix3 0 (y 1) (y 2) := by
    have h0 : (y 0).val < 1 := (y 0).isLt
    funext a; fin_cases a
    · exact Fin.ext (by show (y 0).val = 0; omega)
    · rfl
    · rfl
  exact (congrArg (fun z : S1x8192x128.Idx => outAt m c t z = refOf m c (((cfg0.win 6).blk t).view.emb z)) e).mpr (point m c hf t (y 1) (y 2))

/-- The result array after the run is the reference's term. -/
theorem final (hf : FiniteOps m c) : (dats m 0 c).arrAt 6 (cfgs 0).N = refOf m c := by
  refine (dats m 0 c).arrAt_eq_of_covers 6 _ (by decide +kernel) fun t _ y => ?_
  blk_simp
  rw [after_6]; frame_out
  exact point' m c hf t y

end Cert.Proof.KernelIdeal

end
-- ==== Proof.lean ====
/-
  The proof of the claim: frames, idealizations and values of the layer's pallas calls.  The work is in the modules under
  Proof/; here each conjunct is assembled from the run it speaks of.
-/
module

public import proofs.«01_k».proof.Defs
public import proofs.«01_k».proof.Proof.ProjFrame
public import proofs.«01_k».proof.Proof.ProjFrameIdeal
public import proofs.«01_k».proof.Proof.ProjValue
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.ReferenceIdeal.Run
public import proofs.«01_k».proof.Proof.Gen.Reference2Ideal.Run
public import proofs.«01_k».proof.Proof.Gen.Reference3Ideal.Run
public import proofs.«01_k».proof.Proof.AttnFrame
public import proofs.«01_k».proof.Proof.AttnFrameIdeal
public import proofs.«01_k».proof.Proof.MergeValue
public import proofs.«01_k».proof.Proof.AttnValue
public import Idealize.ShloMosaic.Lib.Claim
public import Idealize.ShloMosaic.Adequacy
public import Idealize.ShloMosaic.Init

@[expose] public section

noncomputable section

namespace Cert.Proof

open Idealize.ShloMosaic Idealize.SL.Sem

/-- The shape facts of the attention's precondition. -/
instance operandFacts : Cert.Pre_finite_operands.Facts where
  bcast_S_S1x64 := by decide
  slices_S32768x10240_S32768x2048_0_0 := by decide
  bitsLt_bf16_f32 := by decide
  bcast_S_S32768x2048 := by decide
  bcast_S_S4x1024x8192 := by decide

/-- The shape facts of the input projection's precondition. -/
instance inputFacts : Cert.Pre_finite_inputs.Facts where
  bcast_S_S4x8192x2048 := by decide
  bcast_S_S1x2048 := by decide
  bcast_S_S1x2048x10240 := by decide

/-! The attention call. -/

theorem frame_attn : Cert.quiescent_Kernel := fun m g _ => Cert.Proof.Kernel.frame_claim m g

theorem frame_attn_ideal : Cert.quiescent_KernelIdeal := fun m g _ => Cert.Proof.KernelIdeal.frame_claim m g

theorem frame_attn_ideal_pre : Cert.quiescent_KernelIdeal_pre_finite_operands := fun m g _ => Cert.Proof.KernelIdeal.frame_claim m g

theorem frame_attn_ref : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem frame_attn_ref_pre : Cert.quiescent_ReferenceIdeal_pre_finite_operands := fun m g _ => frame_attn_ref m g trivial

theorem preserves_attn : Cert.preserves_Kernel_KernelIdeal :=
  IdealRules.named_const.statement Cert.KernelIdeal.κ "mask" .f32 0xF149F2CA#32 ⊥ rfl

/-- The precondition makes the operands real numbers. -/
theorem operands_finite (m) (h : Cert.Pre_KernelIdeal_finite_operands m) (c : Dev Cert.KernelIdeal.nD) :
    Cert.Proof.KernelIdeal.FiniteOps m c := by
  obtain ⟨h0, h1, h2, h3, h5, h6⟩ := h c
  exact ⟨fun d => Finite.real_at _ _ _ h0 _, fun d => Finite.real_at _ _ _ h1 _, fun d => Finite.real_at _ _ _ h2 _,
    fun d => Finite.real_at _ _ _ h3 _,
    fun R n => by
      obtain ⟨r, hr⟩ := Finite.real_at _ _ _ h5 (ValueIdx.ix2 R n)
      refine ⟨r, Eq.trans (congrArg _ ?_) hr⟩
      funext a; fin_cases a <;> exact Fin.ext (Nat.zero_add _).symm,
    fun i e s => Finite.real_at _ _ _ h6 _⟩

theorem value_attn : Cert.algebraic_KernelIdeal_ReferenceIdeal_pre_finite_operands := by
  pair_intro
  · run_from Cert.Proof.KernelIdeal.run_main m g
  · refine (θ_run Cert.ReferenceIdeal.defs _ _).mono (fun r h c => ⟨?_, (h c).2⟩) (Cert.ReferenceIdeal.Value.run m' g')
    obtain ⟨e0, e1, e2, e3, e4, e5, e6⟩ := hagree c
    refine (h c).1.trans ((Cert.Proof.AttnRef.res_eq m' c).trans ?_)
    rw [Cert.Proof.KernelIdeal.final m c (operands_finite m hpre c), e0, e1, e2, e3, e4, e5, e6]

/-! The input projection. -/

theorem frame_proj : Cert.quiescent_Kernel2 := fun m g _ => Cert.Proof.Proj.frame_claim m g

theorem frame_proj_ideal : Cert.quiescent_Kernel2Ideal := fun m g _ => Cert.Proof.ProjIdeal.frame_claim m g

theorem frame_proj_ideal_pre : Cert.quiescent_Kernel2Ideal_pre_finite_inputs := fun m g _ => frame_proj_ideal m g trivial

theorem frame_proj_ref : Cert.quiescent_Reference2Ideal := fun m g _ =>
  (θ_run Cert.Reference2Ideal.defs _ _).mono (fun r h => ⟨fun c => (h c).2.2, sem_eq_zero_of_no_sems (by decide) r.2⟩)
    (Cert.Reference2Ideal.Value.run (F := Ideal) m g)

theorem frame_proj_ref_pre : Cert.quiescent_Reference2Ideal_pre_finite_inputs := fun m g _ => frame_proj_ref m g trivial

theorem preserves_proj : Cert.preserves_Kernel2_Kernel2Ideal := trivial

/-- The precondition makes the inputs real numbers. -/
theorem inputs_finite (m) (h : Cert.Pre_Kernel2Ideal_finite_inputs m) (c : Dev Cert.Kernel2Ideal.nD) :
    Cert.Proof.ProjIdeal.FiniteIn m c := by
  obtain ⟨h0, h1, h2⟩ := h c
  exact ⟨fun i s d => Finite.real_at _ _ _ h0 _, fun d => Finite.real_at _ _ _ h1 _, fun d n => Finite.real_at _ _ _ h2 _⟩

theorem value_proj : Cert.algebraic_Kernel2Ideal_Reference2Ideal_pre_finite_inputs := by
  intro m g m' g' hpre hagree
  refine ⟨fun c => Cert.Proof.ProjIdeal.rowsOf m c, fun c => Cert.Proof.ProjIdeal.valuesOf m c,
    Cert.Proof.ProjIdeal.run_value m g (inputs_finite m hpre), ?_⟩
  refine (θ_run Cert.Reference2Ideal.defs _ _).mono (fun r h c => ⟨?_, ?_, (h c).2.2⟩) (Cert.Reference2Ideal.Value.run m' g')
  · obtain ⟨e0, e1, e2, e3, e4⟩ := hagree c
    refine (h c).1.trans ((Cert.Proof.ProjRef.res_eq m' c).trans ?_)
    rw [e0, e1, e2, e3, e4]
    rfl
  · obtain ⟨e0, e1, e2, e3, e4⟩ := hagree c
    refine (h c).2.1.trans ?_
    rw [e0, e1, e2]
    rfl

/-! The merge. -/

theorem frame_merge : Cert.quiescent_Kernel3 := fun m g _ => Cert.Kernel3.Gen.frame m g

theorem frame_merge_ideal : Cert.quiescent_Kernel3Ideal := fun m g _ => Cert.Kernel3Ideal.Gen.frame m g

theorem frame_merge_ref : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

theorem preserves_merge : Cert.preserves_Kernel3_Kernel3Ideal := trivial

theorem value_merge : Cert.algebraic_Kernel3Ideal_Reference3Ideal := by
  pair_intro
  · run_from Cert.Kernel3Ideal.Gen.run_main m g
  · run_from Cert.Reference3Ideal.Value.run m' g'
    exact (Cert.Proof.Merge.final m c).symm

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, operandFacts, inputFacts,
    frame_attn, frame_attn_ideal, frame_attn_ideal_pre, frame_attn_ref, frame_attn_ref_pre,
    frame_proj, frame_proj_ideal, frame_proj_ideal_pre, frame_proj_ref, frame_proj_ref_pre,
    frame_merge, frame_merge_ideal, frame_merge_ref,
    preserves_attn, value_attn, preserves_proj, value_proj, preserves_merge, value_merge⟩

end Cert.Proof

end
